-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "log_g1" .f32 0xBC8102B3#32 ((Real.log (63 / 64) : ℝ) : EReal)
  ∧ IdealRules.named_const.Statement Cert.KernelIdeal.κ "log_g2" .f32 0xBC0080AC#32 ((Real.log (127 / 128) : ℝ) : EReal)
  ∧ IdealRules.named_const.Statement Cert.KernelIdeal.κ "log_g3" .f32 0xBB80402B#32 ((Real.log (255 / 256) : ℝ) : EReal)
  ∧ IdealRules.named_const.Statement Cert.KernelIdeal.κ "log_g4" .f32 0xBB00200B#32 ((Real.log (511 / 512) : ℝ) : EReal)
  ∧ IdealRules.named_const.Statement Cert.KernelIdeal.κ "log_g5" .f32 0xBA801003#32 ((Real.log (1023 / 1024) : ℝ) : EReal)
  ∧ IdealRules.named_const.Statement Cert.KernelIdeal.κ "log_g6" .f32 0xBA000801#32 ((Real.log (2047 / 2048) : ℝ) : EReal)
  ∧ IdealRules.named_const.Statement Cert.KernelIdeal.κ "log_g7" .f32 0xB9800400#32 ((Real.log (4095 / 4096) : ℝ) : EReal)
  ∧ IdealRules.named_const.Statement Cert.KernelIdeal.κ "dec0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "dec1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "dec2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "dec3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "dec4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.KernelIdeal.κ "dec5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "dec6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.KernelIdeal.κ "dec7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
-- ==== Kernel.lean ====
abbrev S4x8208x1024 : Shape := ⟨3, ![4, 8208, 1024]⟩
abbrev S4x8208x4096 : Shape := ⟨3, ![4, 8208, 4096]⟩
abbrev S_ : Shape := ⟨0, ![]⟩
abbrev S4x112x4096 : Shape := ⟨3, ![4, 112, 4096]⟩
abbrev S4x8320x4096 : Shape := ⟨3, ![4, 8320, 4096]⟩
abbrev S33280x4096 : Shape := ⟨2, ![33280, 4096]⟩
abbrev S8320 : Shape := ⟨1, ![8320]⟩
abbrev S64 : Shape := ⟨1, ![64]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S33280x1024 : Shape := ⟨2, ![33280, 1024]⟩
abbrev S128x1024 : Shape := ⟨2, ![128, 1024]⟩
abbrev S128x128 : Shape := ⟨2, ![128, 128]⟩
abbrev S8x128x128 : Shape := ⟨3, ![8, 128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 33
  | .vmem => 18
  | .smem => 0
  | _ => 0

abbrev bufTy : (tb : Table) → Fin (tcTables nBuf tb) → BufTy
  | .hbm, ⟨0, _⟩ => ⟨S4x8208x1024, .f32⟩
  | .hbm, ⟨1, _⟩ => ⟨S4x8208x1024, .f32⟩
  | .hbm, ⟨2, _⟩ => ⟨S4x8208x1024, .f32⟩
  | .hbm, ⟨3, _⟩ => ⟨S4x8208x1024, .f32⟩
  | .hbm, ⟨4, _⟩ => ⟨S4x8208x4096, .f32⟩
  | .hbm, ⟨5, _⟩ => ⟨S_, .f32⟩
  | .hbm, ⟨6, _⟩ => ⟨S4x112x4096, .f32⟩
  | .hbm, ⟨7, _⟩ => ⟨S4x8320x4096, .f32⟩
  | .hbm, ⟨8, _⟩ => ⟨S33280x4096, .f32⟩
  | .hbm, ⟨9, _⟩ => ⟨S8320, .i32⟩
  | .hbm, ⟨10, _⟩ => ⟨S_, .i32⟩
  | .hbm, ⟨11, _⟩ => ⟨S8320, .i32⟩
  | .hbm, ⟨12, _⟩ => ⟨S8320, .i32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S8320, .f32⟩
  | .hbm, ⟨22, _⟩ => ⟨S8320x1, .f32⟩
  | .hbm, ⟨23, _⟩ => ⟨S1x64, .f32⟩
  | .hbm, ⟨24, _⟩ => ⟨S8320x64, .f32⟩
  | .hbm, ⟨25, _⟩ => ⟨S8320x64, .f32⟩
  | .hbm, ⟨26, _⟩ => ⟨S8320x64, .f32⟩
  | .hbm, ⟨27, _⟩ => ⟨S8320x64, .f32⟩
  | .hbm, ⟨28, _⟩ => ⟨S8320x64, .f32⟩
  | .hbm, ⟨29, _⟩ => ⟨S8320x128, .f32⟩
  | .hbm, ⟨30, _⟩ => ⟨S8320x64, .f32⟩
  | .hbm, ⟨31, _⟩ => ⟨S8320x128, .f32⟩
  | .hbm, ⟨32, _⟩ => ⟨S33280x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1024, .bf16⟩
  | .local _ .vmem, ⟨13, _⟩ => ⟨S128x1024, .bf16⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | _, _ => ⟨S4x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "dec0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "dec1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "dec2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "dec3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "dec4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "dec5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "dec6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "dec7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | "log_g4" => some ((Real.log (511 / 512) : ℝ) : EReal)
  | "log_g5" => some ((Real.log (1023 / 1024) : ℝ) : EReal)
  | "log_g6" => some ((Real.log (2047 / 2048) : ℝ) : EReal)
  | "log_g7" => some ((Real.log (4095 / 4096) : ℝ) : EReal)
  | _ => none
-- ==== ReferenceIdeal.lean ====
abbrev S4x8208x1024 : Shape := ⟨3, ![4, 8208, 1024]⟩
abbrev S4x8208x8x128 : Shape := ⟨4, ![4, 8208, 8, 128]⟩
abbrev S8208 : Shape := ⟨1, ![8208]⟩
abbrev S64 : Shape := ⟨1, ![64]⟩
abbrev S_ : Shape := ⟨0, ![]⟩
abbrev S8208x1 : Shape := ⟨2, ![8208, 1]⟩
abbrev S1x64 : Shape := ⟨2, ![1, 64]⟩
abbrev S8208x64 : Shape := ⟨2, ![8208, 64]⟩
abbrev S1x8208x1x64 : Shape := ⟨4, ![1, 8208, 1, 64]⟩
abbrev S4x8208x8x64 : Shape := ⟨4, ![4, 8208, 8, 64]⟩
abbrev S4x8320x8x128 : Shape := ⟨4, ![4, 8320, 8, 128]⟩
abbrev S4x65x128x8x128 : Shape := ⟨5, ![4, 65, 128, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S4x65x8x128x128 : Shape := ⟨5, ![4, 65, 8, 128, 128]⟩
abbrev S1x1x8x128x128 : Shape := ⟨5, ![1, 1, 8, 128, 128]⟩
abbrev S8x1 : Shape := ⟨2, ![8, 1]⟩
abbrev S8x128 : Shape := ⟨2, ![8, 128]⟩
abbrev S128x8 : Shape := ⟨2, ![128, 8]⟩
abbrev S1x1x128x8x1 : Shape := ⟨5, ![1, 1, 128, 8, 1]⟩
abbrev S4x65x8 : Shape := ⟨3, ![4, 65, 8]⟩
abbrev S4x1x8x128x128 : Shape := ⟨5, ![4, 1, 8, 128, 128]⟩
abbrev S4x8x128x128 : Shape := ⟨4, ![4, 8, 128, 128]⟩
abbrev S65x4x8x128x128 : Shape := ⟨5, ![65, 4, 8, 128, 128]⟩
abbrev S65x4x8 : Shape := ⟨3, ![65, 4, 8]⟩
abbrev S1x4x8x128x128 : Shape := ⟨5, ![1, 4, 8, 128, 128]⟩
abbrev S1x4x8 : Shape := ⟨3, ![1, 4, 8]⟩
abbrev S4x8 : Shape := ⟨2, ![4, 8]⟩
abbrev S4x8x1x1 : Shape := ⟨4, ![4, 8, 1, 1]⟩
abbrev S4x8208x8 : Shape := ⟨3, ![4, 8208, 8]⟩
abbrev S4x8208x8x1 : Shape := ⟨4, ![4, 8208, 8, 1]⟩
abbrev S4x8320x1024 : Shape := ⟨3, ![4, 8320, 1024]⟩
abbrev S33280x1024 : Shape := ⟨2, ![33280, 1024]⟩

abbrev nBuf : Space → Nat
  | .hbm => 232
  | .vmem => 0
  | .smem => 0
  | _ => 0

abbrev hbmTy0_0 (i : Nat) : BufTy := match i % 128 with
  | 0 => ⟨S4x8208x1024, .f32⟩
  | 1 => ⟨S4x8208x1024, .f32⟩
  | 2 => ⟨S4x8208x1024, .f32⟩
  | 3 => ⟨S4x8208x1024, .f32⟩
  | 4 => ⟨S4x8208x8x128, .f32⟩
  | 5 => ⟨S4x8208x8x128, .f32⟩
  | 6 => ⟨S4x8208x8x128, .f32⟩
  | 7 => ⟨S8208, .i32⟩
  | 8 => ⟨S64, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S8208, .f32⟩
  | 17 => ⟨S8208x1, .f32⟩
  | 18 => ⟨S1x64, .f32⟩
  | 19 => ⟨S8208x64, .f32⟩
  | 20 => ⟨S8208x64, .f32⟩
  | 21 => ⟨S8208x64, .f32⟩
  | 22 => ⟨S8208x64, .f32⟩
  | 23 => ⟨S1x8208x1x64, .f32⟩
  | 24 => ⟨S8208x64, .f32⟩
  | 25 => ⟨S1x8208x1x64, .f32⟩
  | 26 => ⟨S4x8208x8x64, .f32⟩
  | 27 => ⟨S4x8208x8x64, .f32⟩
  | 28 => ⟨S4x8208x8x64, .f32⟩
  | 29 => ⟨S4x8208x8x64, .f32⟩
  | 30 => ⟨S4x8208x8x64, .f32⟩
  | 31 => ⟨S4x8208x8x64, .f32⟩
  | 32 => ⟨S4x8208x8x64, .f32⟩
  | 33 => ⟨S4x8208x8x64, .f32⟩
  | 34 => ⟨S4x8208x8x64, .f32⟩
  | 35 => ⟨S4x8208x8x64, .f32⟩
  | 36 => ⟨S4x8208x8x64, .f32⟩
  | 37 => ⟨S4x8208x8x64, .f32⟩
  | 38 => ⟨S4x8208x8x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S8208, .f32⟩
  | 48 => ⟨S8208x1, .f32⟩
  | 49 => ⟨S1x64, .f32⟩
  | 50 => ⟨S8208x64, .f32⟩
  | 51 => ⟨S8208x64, .f32⟩
  | 52 => ⟨S8208x64, .f32⟩
  | 53 => ⟨S8208x64, .f32⟩
  | 54 => ⟨S1x8208x1x64, .f32⟩
  | 55 => ⟨S8208x64, .f32⟩
  | 56 => ⟨S1x8208x1x64, .f32⟩
  | 57 => ⟨S4x8208x8x64, .f32⟩
  | 58 => ⟨S4x8208x8x64, .f32⟩
  | 59 => ⟨S4x8208x8x64, .f32⟩
  | 60 => ⟨S4x8208x8x64, .f32⟩
  | 61 => ⟨S4x8208x8x64, .f32⟩
  | 62 => ⟨S4x8208x8x64, .f32⟩
  | 63 => ⟨S4x8208x8x64, .f32⟩
  | 64 => ⟨S4x8208x8x64, .f32⟩
  | 65 => ⟨S4x8208x8x64, .f32⟩
  | 66 => ⟨S4x8208x8x64, .f32⟩
  | 67 => ⟨S4x8208x8x64, .f32⟩
  | 68 => ⟨S4x8208x8x64, .f32⟩
  | 69 => ⟨S4x8208x8x128, .f32⟩
  | 70 => ⟨S_, .f32⟩
  | 71 => ⟨S4x8208x8x128, .f32⟩
  | 72 => ⟨S4x8208x8x128, .f32⟩
  | 73 => ⟨S_, .i32⟩
  | 74 => ⟨S_, .f32⟩
  | 75 => ⟨S4x8320x8x128, .f32⟩
  | 76 => ⟨S4x65x128x8x128, .f32⟩
  | 77 => ⟨S_, .i32⟩
  | 78 => ⟨S_, .f32⟩
  | 79 => ⟨S4x8320x8x128, .f32⟩
  | 80 => ⟨S4x65x128x8x128, .f32⟩
  | 81 => ⟨S_, .i32⟩
  | 82 => ⟨S_, .f32⟩
  | 83 => ⟨S4x8320x8x128, .f32⟩
  | 84 => ⟨S4x65x128x8x128, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S8, .f32⟩
  | 96 => ⟨S128, .f32⟩
  | 97 => ⟨S128x1, .f32⟩
  | 98 => ⟨S1x128, .f32⟩
  | 99 => ⟨S128x128, .f32⟩
  | 100 => ⟨S128x128, .f32⟩
  | 101 => ⟨S128x128, .f32⟩
  | 102 => ⟨S_, .f32⟩
  | 103 => ⟨S128x128, .f32⟩
  | 104 => ⟨S128x128, .i1⟩
  | 105 => ⟨S1x128x128, .i1⟩
  | 106 => ⟨S_, .f32⟩
  | 107 => ⟨S_, .f32⟩
  | 108 => ⟨S128x128, .f32⟩
  | 109 => ⟨S128x128, .f32⟩
  | 110 => ⟨S1x128x128, .f32⟩
  | 111 => ⟨S8x1x1, .f32⟩
  | 112 => ⟨S8x128x128, .f32⟩
  | 113 => ⟨S8x128x128, .f32⟩
  | 114 => ⟨S8x128x128, .f32⟩
  | 115 => ⟨S8x128x128, .f32⟩
  | 116 => ⟨S_, .f32⟩
  | 117 => ⟨S_, .f32⟩
  | 118 => ⟨S8x128x128, .i1⟩
  | 119 => ⟨S8x128x128, .f32⟩
  | 120 => ⟨S8x128x128, .f32⟩
  | 121 => ⟨S4x65x8x128x128, .f32⟩
  | 122 => ⟨S1x1x8x128x128, .f32⟩
  | 123 => ⟨S4x65x8x128x128, .f32⟩
  | 124 => ⟨S4x65x8x128x128, .f32⟩
  | 125 => ⟨S4x65x8x128x128, .f32⟩
  | 126 => ⟨S4x65x128x8x128, .f32⟩
  | 127 => ⟨S_, .f32⟩
  | _ => ⟨S4x8208x1024, .f32⟩

abbrev hbmTy0_1 (i : Nat) : BufTy := match i % 128 with
  | 0 => ⟨S128, .f32⟩
  | 1 => ⟨S128, .f32⟩
  | 2 => ⟨S1x128, .f32⟩
  | 3 => ⟨S8x1, .f32⟩
  | 4 => ⟨S8x128, .f32⟩
  | 5 => ⟨S8x128, .f32⟩
  | 6 => ⟨S8x128, .f32⟩
  | 7 => ⟨S8x128, .f32⟩
  | 8 => ⟨S128x8, .f32⟩
  | 9 => ⟨S1x1x128x8x1, .f32⟩
  | 10 => ⟨S4x65x128x8x128, .f32⟩
  | 11 => ⟨S4x65x128x8x128, .f32⟩
  | 12 => ⟨S4x65x8x128x128, .f32⟩
  | 13 => ⟨S_, .f32⟩
  | 14 => ⟨S8, .f32⟩
  | 15 => ⟨S8, .f32⟩
  | 16 => ⟨S8, .f32⟩
  | 17 => ⟨S4x65x8, .f32⟩
  | 18 => ⟨S4x1x8x128x128, .f32⟩
  | 19 => ⟨S4x8x128x128, .f32⟩
  | 20 => ⟨S_, .f32⟩
  | 21 => ⟨S4x8x128x128, .f32⟩
  | 22 => ⟨S65x4x8x128x128, .f32⟩
  | 23 => ⟨S65x4x8, .f32⟩
  | 24 => ⟨S_, .f32⟩
  | 25 => ⟨S65x4x8x128x128, .f32⟩
  | 26 => ⟨S_, .i32⟩
  | 27 => ⟨S65x4x8x128x128, .f32⟩
  | 28 => ⟨S65x4x8, .f32⟩
  | 29 => ⟨S_, .i32⟩
  | 30 => ⟨S4x8x128x128, .f32⟩
  | 31 => ⟨S65x4x8x128x128, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1x4x8x128x128, .f32⟩
  | 39 => ⟨S4x8x128x128, .f32⟩
  | 40 => ⟨S_, .i32⟩
  | 41 => ⟨S_, .i32⟩
  | 42 => ⟨S1x4x8, .f32⟩
  | 43 => ⟨S4x8, .f32⟩
  | 44 => ⟨S4x8x1x1, .f32⟩
  | 45 => ⟨S4x8x128x128, .f32⟩
  | 46 => ⟨S4x8x128x128, .f32⟩
  | 47 => ⟨S4x8x128x128, .f32⟩
  | 48 => ⟨S1x4x8x128x128, .f32⟩
  | 49 => ⟨S_, .i32⟩
  | 50 => ⟨S_, .i32⟩
  | 51 => ⟨S_, .i32⟩
  | 52 => ⟨S_, .i32⟩
  | 53 => ⟨S65x4x8x128x128, .f32⟩
  | 54 => ⟨S_, .i32⟩
  | 55 => ⟨S_, .i32⟩
  | 56 => ⟨S4x65x8x128x128, .f32⟩
  | 57 => ⟨S_, .f32⟩
  | 58 => ⟨S128, .f32⟩
  | 59 => ⟨S128, .f32⟩
  | 60 => ⟨S1x128, .f32⟩
  | 61 => ⟨S8x1, .f32⟩
  | 62 => ⟨S8x128, .f32⟩
  | 63 => ⟨S8x128, .f32⟩
  | 64 => ⟨S8x128, .f32⟩
  | 65 => ⟨S8x128, .f32⟩
  | 66 => ⟨S128x8, .f32⟩
  | 67 => ⟨S1x1x128x8x1, .f32⟩
  | 68 => ⟨S4x65x128x8x128, .f32⟩
  | 69 => ⟨S4x65x128x8x128, .f32⟩
  | 70 => ⟨S4x65x8x128x128, .f32⟩
  | 71 => ⟨S4x65x128x8x128, .f32⟩
  | 72 => ⟨S4x65x128x8x128, .f32⟩
  | 73 => ⟨S4x8320x8x128, .f32⟩
  | 74 => ⟨S4x8208x8x128, .f32⟩
  | 75 => ⟨S4x8208x1024, .f32⟩
  | 76 => ⟨S4x8208x1024, .f32⟩
  | 77 => ⟨S_, .f32⟩
  | 78 => ⟨S4x8208x1024, .f32⟩
  | 79 => ⟨S4x8208x1024, .f32⟩
  | 80 => ⟨S_, .f32⟩
  | 81 => ⟨S4x8208x1024, .f32⟩
  | 82 => ⟨S4x8208x1024, .f32⟩
  | 83 => ⟨S4x8208x1024, .f32⟩
  | 84 => ⟨S4x8208x8x128, .f32⟩
  | 85 => ⟨S_, .f32⟩
  | 86 => ⟨S4x8208x8, .f32⟩
  | 87 => ⟨S4x8208x8x1, .f32⟩
  | 88 => ⟨S_, .f32⟩
  | 89 => ⟨S4x8208x8x1, .f32⟩
  | 90 => ⟨S4x8208x8x1, .f32⟩
  | 91 => ⟨S_, .f32⟩
  | 92 => ⟨S4x8208x8x1, .f32⟩
  | 93 => ⟨S4x8208x8x1, .f32⟩
  | 94 => ⟨S4x8208x8x1, .f32⟩
  | 95 => ⟨S4x8208x8x128, .f32⟩
  | 96 => ⟨S4x8208x8x128, .f32⟩
  | 97 => ⟨S4x8208x1024, .f32⟩
  | 98 => ⟨S4x8208x1024, .f32⟩
  | 99 => ⟨S_, .i32⟩
  | 100 => ⟨S_, .f32⟩
  | 101 => ⟨S4x8320x1024, .f32⟩
  | 102 => ⟨S33280x1024, .f32⟩
  | 103 => ⟨S33280x1024, .bf16⟩
  | _ => ⟨S4x8208x1024, .f32⟩

abbrev hbmTy (i : Nat) : BufTy := match i / 128 with
  | 0 => hbmTy0_0 i
  | 1 => hbmTy0_1 i
  | _ => ⟨S4x8208x1024, .f32⟩

abbrev bufTy : (tb : Table) → Fin (tcTables nBuf tb) → BufTy
  | .hbm, ⟨i, _⟩ => hbmTy i
  | _, _ => ⟨S4x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_3 : Ref sig .tc := ⟨.hbm, 70, rfl⟩
abbrev main_v62 : Ref sig .tc := ⟨.hbm, 71, rfl⟩
abbrev main_v63 : Ref sig .tc := ⟨.hbm, 72, rfl⟩
abbrev main_c : Ref sig .tc := ⟨.hbm, 73, rfl⟩
abbrev main_call0_v0 : Ref sig .tc := ⟨.hbm, 74, rfl⟩
abbrev main_v64 : Ref sig .tc := ⟨.hbm, 75, rfl⟩
abbrev main_v65 : Ref sig .tc := ⟨.hbm, 76, rfl⟩
abbrev main_c_4 : Ref sig .tc := ⟨.hbm, 77, rfl⟩
abbrev main_call1_v0 : Ref sig .tc := ⟨.hbm, 78, rfl⟩
abbrev main_v66 : Ref sig .tc := ⟨.hbm, 79, rfl⟩
abbrev main_v67 : Ref sig .tc := ⟨.hbm, 80, rfl⟩
abbrev main_c_5 : Ref sig .tc := ⟨.hbm, 81, rfl⟩
abbrev main_call2_v0 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_cst_8 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_9 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_call3_v0 : Ref sig .tc := ⟨.hbm, 107, rfl⟩
abbrev main_call3_v1 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_13 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_14 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_15 : Ref sig .tc := ⟨.hbm, 152, rfl⟩
abbrev main_v123 : Ref sig .tc := ⟨.hbm, 153, rfl⟩
abbrev main_c_16 : Ref sig .tc := ⟨.hbm, 154, rfl⟩
abbrev main_v124_0 : Ref sig .tc := ⟨.hbm, 155, rfl⟩
abbrev main_v124_1 : Ref sig .tc := ⟨.hbm, 156, rfl⟩
abbrev main_v124_2 : Ref sig .tc := ⟨.hbm, 157, rfl⟩
abbrev main_v124_3 : Ref sig .tc := ⟨.hbm, 158, rfl⟩
abbrev main_v124_4 : Ref sig .tc := ⟨.hbm, 159, rfl⟩
abbrev main_while0c_c_26 : Ref sig .tc := ⟨.hbm, 160, rfl⟩
abbrev main_while0c_v159 : Ref sig .tc := ⟨.hbm, 161, rfl⟩
abbrev main_while0b_call5_c : Ref sig .tc := ⟨.hbm, 162, rfl⟩
abbrev main_while0b_call5_c_0 : Ref sig .tc := ⟨.hbm, 163, rfl⟩
abbrev main_while0b_call5_c_1 : Ref sig .tc := ⟨.hbm, 164, rfl⟩
abbrev main_while0b_call5_c_2 : Ref sig .tc := ⟨.hbm, 165, rfl⟩
abbrev main_while0b_call5_v0 : Ref sig .tc := ⟨.hbm, 166, rfl⟩
abbrev main_while0b_v159 : Ref sig .tc := ⟨.hbm, 167, rfl⟩
abbrev main_while0b_call6_c : Ref sig .tc := ⟨.hbm, 168, rfl⟩
abbrev main_while0b_call6_c_0 : Ref sig .tc := ⟨.hbm, 169, rfl⟩
abbrev main_while0b_call6_v0 : Ref sig .tc := ⟨.hbm, 170, rfl⟩
abbrev main_while0b_v160 : Ref sig .tc := ⟨.hbm, 171, rfl⟩
abbrev main_while0b_v161 : Ref sig .tc := ⟨.hbm, 172, rfl⟩
abbrev main_while0b_v162 : Ref sig .tc := ⟨.hbm, 173, rfl⟩
abbrev main_while0b_v163 : Ref sig .tc := ⟨.hbm, 174, rfl⟩
abbrev main_while0b_v164 : Ref sig .tc := ⟨.hbm, 175, rfl⟩
abbrev main_while0b_call7_v0 : Ref sig .tc := ⟨.hbm, 176, rfl⟩
abbrev main_while0b_call7_c : Ref sig .tc := ⟨.hbm, 177, rfl⟩
abbrev main_while0b_call7_c_0 : Ref sig .tc := ⟨.hbm, 178, rfl⟩
abbrev main_while0b_call7_c_1 : Ref sig .tc := ⟨.hbm, 179, rfl⟩
abbrev main_while0b_call7_c_2 : Ref sig .tc := ⟨.hbm, 180, rfl⟩
abbrev main_while0b_v165 : Ref sig .tc := ⟨.hbm, 181, rfl⟩
abbrev main_while0b_c_26 : Ref sig .tc := ⟨.hbm, 182, rfl⟩
abbrev main_while0b_v166 : Ref sig .tc := ⟨.hbm, 183, rfl⟩
abbrev main_v125 : Ref sig .tc := ⟨.hbm, 184, rfl⟩
abbrev main_cst_17 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_call8_v0 : Ref sig .tc := ⟨.hbm, 203, rfl⟩
abbrev main_call8_v1 : Ref sig .tc := ⟨.hbm, 204, rfl⟩
abbrev main_call8_cst : Ref sig .tc := ⟨.hbm, 205, rfl⟩
abbrev main_call8_v2 : Ref sig .tc := ⟨.hbm, 206, rfl⟩
abbrev main_call8_v3 : Ref sig .tc := ⟨.hbm, 207, rfl⟩
abbrev main_call8_cst_0 : Ref sig .tc := ⟨.hbm, 208, rfl⟩
abbrev main_call8_v4 : Ref sig .tc := ⟨.hbm, 209, rfl⟩
abbrev main_call8_v5 : Ref sig .tc := ⟨.hbm, 210, rfl⟩
abbrev main_v143 : Ref sig .tc := ⟨.hbm, 211, rfl⟩
abbrev main_v144 : Ref sig .tc := ⟨.hbm, 212, rfl⟩
abbrev main_cst_18 : Ref sig .tc := ⟨.hbm, 213, rfl⟩
abbrev main_v145 : Ref sig .tc := ⟨.hbm, 214, rfl⟩
abbrev main_v146 : Ref sig .tc := ⟨.hbm, 215, rfl⟩
abbrev main_cst_19 : Ref sig .tc := ⟨.hbm, 216, rfl⟩
abbrev main_v147 : Ref sig .tc := ⟨.hbm, 217, rfl⟩
abbrev main_v148 : Ref sig .tc := ⟨.hbm, 218, rfl⟩
abbrev main_cst_20 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_c_21 : Ref sig .tc := ⟨.hbm, 227, rfl⟩
abbrev main_call9_v0 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩

abbrev nD : Nat := 1
abbrev τ : Topo := Topo.v7x

variable {F : FTy → Type} [FloatOps F]

abbrev main_while0_count : Scf.Loop 32 := ⟨0#32, 65#32, 1#32⟩
-- ==== Kernel2.lean ====
abbrev S33280x2048 : Shape := ⟨2, ![33280, 2048]⟩
abbrev S4x2048x5632 : Shape := ⟨3, ![4, 2048, 5632]⟩
abbrev S33280x5632 : Shape := ⟨2, ![33280, 5632]⟩
abbrev S1664x2048 : Shape := ⟨2, ![1664, 2048]⟩
abbrev S1x2048x512 : Shape := ⟨3, ![1, 2048, 512]⟩
abbrev S1664x512 : Shape := ⟨2, ![1664, 512]⟩
abbrev S2048x512 : Shape := ⟨2, ![2048, 512]⟩
abbrev S832x2048 : Shape := ⟨2, ![832, 2048]⟩
abbrev S832x512 : Shape := ⟨2, ![832, 512]⟩

abbrev nBuf : Space → Nat
  | .hbm => 4
  | .vmem => 10
  | .smem => 0
  | _ => 0

abbrev bufTy : (tb : Table) → Fin (tcTables nBuf tb) → BufTy
  | .hbm, ⟨0, _⟩ => ⟨S33280x2048, .bf16⟩
  | .hbm, ⟨1, _⟩ => ⟨S4x2048x5632, .f32⟩
  | .hbm, ⟨2, _⟩ => ⟨S4x2048x5632, .f32⟩
  | .hbm, ⟨3, _⟩ => ⟨S33280x5632, .bf16⟩
  | .local _ .vmem, ⟨0, _⟩ => ⟨S1664x2048, .bf16⟩
  | .local _ .vmem, ⟨1, _⟩ => ⟨S1664x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1664x512, .bf16⟩
  | .local _ .vmem, ⟨7, _⟩ => ⟨S1664x512, .bf16⟩
  | .local _ .vmem, ⟨8, _⟩ => ⟨S2048x512, .bf16⟩
  | .local _ .vmem, ⟨9, _⟩ => ⟨S2048x512, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S33280x2048 : Shape := ⟨2, ![33280, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S33280x5632 : Shape := ⟨2, ![33280, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S4x2048x5632, .f32⟩
  | .hbm, ⟨2, _⟩ => ⟨S4x2048x5632, .f32⟩
  | .hbm, ⟨3, _⟩ => ⟨S33280x2048, .f32⟩
  | .hbm, ⟨4, _⟩ => ⟨S1x2048x5632, .f32⟩
  | .hbm, ⟨5, _⟩ => ⟨S2048x5632, .f32⟩
  | .hbm, ⟨6, _⟩ => ⟨S33280x5632, .f32⟩
  | .hbm, ⟨7, _⟩ => ⟨S33280x5632, .f32⟩
  | .hbm, ⟨8, _⟩ => ⟨S33280x5632, .f32⟩
  | .hbm, ⟨9, _⟩ => ⟨S_, .f32⟩
  | .hbm, ⟨10, _⟩ => ⟨S33280x5632, .f32⟩
  | .hbm, ⟨11, _⟩ => ⟨S33280x5632, .f32⟩
  | .hbm, ⟨12, _⟩ => ⟨S_, .f32⟩
  | .hbm, ⟨13, _⟩ => ⟨S33280x5632, .f32⟩
  | .hbm, ⟨14, _⟩ => ⟨S33280x5632, .f32⟩
  | .hbm, ⟨15, _⟩ => ⟨S33280x5632, .f32⟩
  | .hbm, ⟨16, _⟩ => ⟨S1x2048x5632, .f32⟩
  | .hbm, ⟨17, _⟩ => ⟨S2048x5632, .f32⟩
  | .hbm, ⟨18, _⟩ => ⟨S33280x5632, .f32⟩
  | .hbm, ⟨19, _⟩ => ⟨S33280x5632, .f32⟩
  | .hbm, ⟨20, _⟩ => ⟨S33280x5632, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S33280x2048 : Shape := ⟨2, ![33280, 2048]⟩
abbrev S33280x1024 : Shape := ⟨2, ![33280, 1024]⟩
abbrev S4x2048x19712 : Shape := ⟨3, ![4, 2048, 19712]⟩
abbrev S4x1024x2048 : Shape := ⟨3, ![4, 1024, 2048]⟩
abbrev S4x2048x2048 : Shape := ⟨3, ![4, 2048, 2048]⟩
abbrev S1280x2048 : Shape := ⟨2, ![1280, 2048]⟩
abbrev S1280x1024 : Shape := ⟨2, ![1280, 1024]⟩
abbrev S1x2048x256 : Shape := ⟨3, ![1, 2048, 256]⟩
abbrev S1x1024x256 : Shape := ⟨3, ![1, 1024, 256]⟩
abbrev S1280x256 : Shape := ⟨2, ![1280, 256]⟩
abbrev S640x2048 : Shape := ⟨2, ![640, 2048]⟩
abbrev S2048x256 : Shape := ⟨2, ![2048, 256]⟩
abbrev S640x256 : Shape := ⟨2, ![640, 256]⟩
abbrev S640x1024 : Shape := ⟨2, ![640, 1024]⟩
abbrev S1024x256 : Shape := ⟨2, ![1024, 256]⟩

abbrev nBuf : Space → Nat
  | .hbm => 12
  | .vmem => 22
  | .smem => 0
  | _ => 0

abbrev bufTy : (tb : Table) → Fin (tcTables nBuf tb) → BufTy
  | .hbm, ⟨0, _⟩ => ⟨S33280x2048, .bf16⟩
  | .hbm, ⟨1, _⟩ => ⟨S33280x1024, .bf16⟩
  | .hbm, ⟨2, _⟩ => ⟨S33280x1024, .bf16⟩
  | .hbm, ⟨3, _⟩ => ⟨S33280x2048, .bf16⟩
  | .hbm, ⟨4, _⟩ => ⟨S4x2048x19712, .bf16⟩
  | .hbm, ⟨5, _⟩ => ⟨S4x1024x2048, .f32⟩
  | .hbm, ⟨6, _⟩ => ⟨S4x1024x2048, .f32⟩
  | .hbm, ⟨7, _⟩ => ⟨S4x2048x2048, .f32⟩
  | .hbm, ⟨8, _⟩ => ⟨S4x1024x2048, .bf16⟩
  | .hbm, ⟨9, _⟩ => ⟨S4x1024x2048, .bf16⟩
  | .hbm, ⟨10, _⟩ => ⟨S4x2048x2048, .bf16⟩
  | .hbm, ⟨11, _⟩ => ⟨S33280x2048, .bf16⟩
  | .local _ .vmem, ⟨0, _⟩ => ⟨S1280x2048, .bf16⟩
  | .local _ .vmem, ⟨1, _⟩ => ⟨S1280x2048, .bf16⟩
  | .local _ .vmem, ⟨2, _⟩ => ⟨S1280x1024, .bf16⟩
  | .local _ .vmem, ⟨3, _⟩ => ⟨S1280x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x2048, .bf16⟩
  | .local _ .vmem, ⟨7, _⟩ => ⟨S1280x2048, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x2048x256, .bf16⟩
  | .local _ .vmem, ⟨19, _⟩ => ⟨S1x2048x256, .bf16⟩
  | .local _ .vmem, ⟨20, _⟩ => ⟨S1280x256, .bf16⟩
  | .local _ .vmem, ⟨21, _⟩ => ⟨S1280x256, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![26, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1280x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1280x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S33280x2048 : Shape := ⟨2, ![33280, 2048]⟩
abbrev S33280x1024 : Shape := ⟨2, ![33280, 1024]⟩
abbrev S4x2048x19712 : Shape := ⟨3, ![4, 2048, 19712]⟩
abbrev S4x1024x2048 : Shape := ⟨3, ![4, 1024, 2048]⟩
abbrev S4x2048x2048 : Shape := ⟨3, ![4, 2048, 2048]⟩
abbrev S1x2048x6144 : Shape := ⟨3, ![1, 2048, 6144]⟩
abbrev S2048x6144 : Shape := ⟨2, ![2048, 6144]⟩
abbrev S33280x6144 : Shape := ⟨2, ![33280, 6144]⟩
abbrev S_ : Shape := ⟨0, ![]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S33280x1024, .bf16⟩
  | .hbm, ⟨2, _⟩ => ⟨S33280x1024, .bf16⟩
  | .hbm, ⟨3, _⟩ => ⟨S33280x2048, .bf16⟩
  | .hbm, ⟨4, _⟩ => ⟨S4x2048x19712, .bf16⟩
  | .hbm, ⟨5, _⟩ => ⟨S4x1024x2048, .f32⟩
  | .hbm, ⟨6, _⟩ => ⟨S4x1024x2048, .f32⟩
  | .hbm, ⟨7, _⟩ => ⟨S4x2048x2048, .f32⟩
  | .hbm, ⟨8, _⟩ => ⟨S33280x2048, .f32⟩
  | .hbm, ⟨9, _⟩ => ⟨S1x2048x6144, .bf16⟩
  | .hbm, ⟨10, _⟩ => ⟨S2048x6144, .bf16⟩
  | .hbm, ⟨11, _⟩ => ⟨S2048x6144, .f32⟩
  | .hbm, ⟨12, _⟩ => ⟨S33280x6144, .f32⟩
  | .hbm, ⟨13, _⟩ => ⟨S33280x2048, .f32⟩
  | .hbm, ⟨14, _⟩ => ⟨S33280x2048, .f32⟩
  | .hbm, ⟨15, _⟩ => ⟨S33280x2048, .f32⟩
  | .hbm, ⟨16, _⟩ => ⟨S33280x2048, .f32⟩
  | .hbm, ⟨17, _⟩ => ⟨S33280x2048, .f32⟩
  | .hbm, ⟨18, _⟩ => ⟨S_, .f32⟩
  | .hbm, ⟨19, _⟩ => ⟨S33280x2048, .f32⟩
  | .hbm, ⟨20, _⟩ => ⟨S33280x2048, .f32⟩
  | .hbm, ⟨21, _⟩ => ⟨S_, .f32⟩
  | .hbm, ⟨22, _⟩ => ⟨S33280x2048, .f32⟩
  | .hbm, ⟨23, _⟩ => ⟨S33280x2048, .f32⟩
  | .hbm, ⟨24, _⟩ => ⟨S33280x1024, .f32⟩
  | .hbm, ⟨25, _⟩ => ⟨S1x1024x2048, .f32⟩
  | .hbm, ⟨26, _⟩ => ⟨S1024x2048, .f32⟩
  | .hbm, ⟨27, _⟩ => ⟨S33280x2048, .f32⟩
  | .hbm, ⟨28, _⟩ => ⟨S33280x2048, .f32⟩
  | .hbm, ⟨29, _⟩ => ⟨S33280x2048, .f32⟩
  | .hbm, ⟨30, _⟩ => ⟨S33280x2048, .f32⟩
  | .hbm, ⟨31, _⟩ => ⟨S_, .f32⟩
  | .hbm, ⟨32, _⟩ => ⟨S33280x2048, .f32⟩
  | .hbm, ⟨33, _⟩ => ⟨S33280x2048, .f32⟩
  | .hbm, ⟨34, _⟩ => ⟨S_, .f32⟩
  | .hbm, ⟨35, _⟩ => ⟨S33280x2048, .f32⟩
  | .hbm, ⟨36, _⟩ => ⟨S33280x2048, .f32⟩
  | .hbm, ⟨37, _⟩ => ⟨S33280x1024, .f32⟩
  | .hbm, ⟨38, _⟩ => ⟨S1x1024x2048, .f32⟩
  | .hbm, ⟨39, _⟩ => ⟨S1024x2048, .f32⟩
  | .hbm, ⟨40, _⟩ => ⟨S33280x2048, .f32⟩
  | .hbm, ⟨41, _⟩ => ⟨S33280x2048, .f32⟩
  | .hbm, ⟨42, _⟩ => ⟨S33280x2048, .f32⟩
  | .hbm, ⟨43, _⟩ => ⟨S33280x2048, .f32⟩
  | .hbm, ⟨44, _⟩ => ⟨S33280x2048, .f32⟩
  | .hbm, ⟨45, _⟩ => ⟨S_, .f32⟩
  | .hbm, ⟨46, _⟩ => ⟨S33280x2048, .f32⟩
  | .hbm, ⟨47, _⟩ => ⟨S33280x2048, .f32⟩
  | .hbm, ⟨48, _⟩ => ⟨S_, .f32⟩
  | .hbm, ⟨49, _⟩ => ⟨S33280x2048, .f32⟩
  | .hbm, ⟨50, _⟩ => ⟨S33280x2048, .f32⟩
  | .hbm, ⟨51, _⟩ => ⟨S33280x2048, .f32⟩
  | .hbm, ⟨52, _⟩ => ⟨S1x2048x2048, .f32⟩
  | .hbm, ⟨53, _⟩ => ⟨S2048x2048, .f32⟩
  | .hbm, ⟨54, _⟩ => ⟨S33280x2048, .f32⟩
  | .hbm, ⟨55, _⟩ => ⟨S33280x2048, .f32⟩
  | .hbm, ⟨56, _⟩ => ⟨S33280x2048, .f32⟩
  | .hbm, ⟨57, _⟩ => ⟨S33280x2048, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel4.lean ====
abbrev S33280x5632 : Shape := ⟨2, ![33280, 5632]⟩
abbrev S4x5632x2048 : Shape := ⟨3, ![4, 5632, 2048]⟩
abbrev S33280x2048 : Shape := ⟨2, ![33280, 2048]⟩
abbrev S4x2048 : Shape := ⟨2, ![4, 2048]⟩
abbrev S1x2048 : Shape := ⟨2, ![1, 2048]⟩
abbrev S2048 : Shape := ⟨1, ![2048]⟩
abbrev S640x2816 : Shape := ⟨2, ![640, 2816]⟩
abbrev S1x2816x2048 : Shape := ⟨3, ![1, 2816, 2048]⟩
abbrev S640x2048 : Shape := ⟨2, ![640, 2048]⟩
abbrev S320x2816 : Shape := ⟨2, ![320, 2816]⟩
abbrev S2816x2048 : Shape := ⟨2, ![2816, 2048]⟩
abbrev S320x2048 : Shape := ⟨2, ![320, 2048]⟩
abbrev S320 : Shape := ⟨1, ![320]⟩
abbrev S320x1 : Shape := ⟨2, ![320, 1]⟩

abbrev nBuf : Space → Nat
  | .hbm => 14
  | .vmem => 12
  | .smem => 0
  | _ => 0

abbrev bufTy : (tb : Table) → Fin (tcTables nBuf tb) → BufTy
  | .hbm, ⟨0, _⟩ => ⟨S33280x5632, .bf16⟩
  | .hbm, ⟨1, _⟩ => ⟨S4x5632x2048, .f32⟩
  | .hbm, ⟨2, _⟩ => ⟨S33280x2048, .f32⟩
  | .hbm, ⟨3, _⟩ => ⟨S4x2048, .f32⟩
  | .hbm, ⟨4, _⟩ => ⟨S4x2048, .f32⟩
  | .hbm, ⟨5, _⟩ => ⟨S4x5632x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S33280x2048, .f32⟩
  | .hbm, ⟨13, _⟩ => ⟨S33280x2048, .bf16⟩
  | .local _ .vmem, ⟨0, _⟩ => ⟨S640x2816, .bf16⟩
  | .local _ .vmem, ⟨1, _⟩ => ⟨S640x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S640x2048, .f32⟩
  | .local _ .vmem, ⟨5, _⟩ => ⟨S640x2048, .f32⟩
  | .local _ .vmem, ⟨6, _⟩ => ⟨S1x2048, .f32⟩
  | .local _ .vmem, ⟨7, _⟩ => ⟨S1x2048, .f32⟩
  | .local _ .vmem, ⟨8, _⟩ => ⟨S640x2048, .f32⟩
  | .local _ .vmem, ⟨9, _⟩ => ⟨S640x2048, .f32⟩
  | .local _ .vmem, ⟨10, _⟩ => ⟨S640x2048, .bf16⟩
  | .local _ .vmem, ⟨11, _⟩ => ⟨S640x2048, .bf16⟩
  | _, _ => ⟨S33280x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![52, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S33280x5632 : Shape := ⟨2, ![33280, 5632]⟩
abbrev S4x5632x2048 : Shape := ⟨3, ![4, 5632, 2048]⟩
abbrev S33280x2048 : Shape := ⟨2, ![33280, 2048]⟩
abbrev S4x2048 : Shape := ⟨2, ![4, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S33280 : Shape := ⟨1, ![33280]⟩
abbrev S33280x1 : Shape := ⟨2, ![33280, 1]⟩

abbrev nBuf : Space → Nat
  | .hbm => 47
  | .vmem => 0
  | .smem => 0
  | _ => 0

abbrev bufTy : (tb : Table) → Fin (tcTables nBuf tb) → BufTy
  | .hbm, ⟨0, _⟩ => ⟨S33280x5632, .bf16⟩
  | .hbm, ⟨1, _⟩ => ⟨S4x5632x2048, .f32⟩
  | .hbm, ⟨2, _⟩ => ⟨S33280x2048, .f32⟩
  | .hbm, ⟨3, _⟩ => ⟨S4x2048, .f32⟩
  | .hbm, ⟨4, _⟩ => ⟨S4x2048, .f32⟩
  | .hbm, ⟨5, _⟩ => ⟨S33280x5632, .f32⟩
  | .hbm, ⟨6, _⟩ => ⟨S1x5632x2048, .f32⟩
  | .hbm, ⟨7, _⟩ => ⟨S5632x2048, .f32⟩
  | .hbm, ⟨8, _⟩ => ⟨S33280x2048, .f32⟩
  | .hbm, ⟨9, _⟩ => ⟨S1x2048, .f32⟩
  | .hbm, ⟨10, _⟩ => ⟨S2048, .f32⟩
  | .hbm, ⟨11, _⟩ => ⟨S33280x2048, .f32⟩
  | .hbm, ⟨12, _⟩ => ⟨S_, .f32⟩
  | .hbm, ⟨13, _⟩ => ⟨S33280, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S_, .f32⟩
  | .hbm, ⟨19, _⟩ => ⟨S33280x1, .f32⟩
  | .hbm, ⟨20, _⟩ => ⟨S33280x1, .f32⟩
  | .hbm, ⟨21, _⟩ => ⟨S33280x1, .f32⟩
  | .hbm, ⟨22, _⟩ => ⟨S33280x2048, .f32⟩
  | .hbm, ⟨23, _⟩ => ⟨S33280x2048, .f32⟩
  | .hbm, ⟨24, _⟩ => ⟨S1x2048, .f32⟩
  | .hbm, ⟨25, _⟩ => ⟨S33280x2048, .f32⟩
  | .hbm, ⟨26, _⟩ => ⟨S33280x2048, .f32⟩
  | .hbm, ⟨27, _⟩ => ⟨S33280x2048, .f32⟩
  | .hbm, ⟨28, _⟩ => ⟨S1x2048, .f32⟩
  | .hbm, ⟨29, _⟩ => ⟨S2048, .f32⟩
  | .hbm, ⟨30, _⟩ => ⟨S33280x2048, .f32⟩
  | .hbm, ⟨31, _⟩ => ⟨S_, .f32⟩
  | .hbm, ⟨32, _⟩ => ⟨S33280, .f32⟩
  | .hbm, ⟨33, _⟩ => ⟨S33280x1, .f32⟩
  | .hbm, ⟨34, _⟩ => ⟨S_, .f32⟩
  | .hbm, ⟨35, _⟩ => ⟨S33280x1, .f32⟩
  | .hbm, ⟨36, _⟩ => ⟨S33280x1, .f32⟩
  | .hbm, ⟨37, _⟩ => ⟨S_, .f32⟩
  | .hbm, ⟨38, _⟩ => ⟨S33280x1, .f32⟩
  | .hbm, ⟨39, _⟩ => ⟨S33280x1, .f32⟩
  | .hbm, ⟨40, _⟩ => ⟨S33280x1, .f32⟩
  | .hbm, ⟨41, _⟩ => ⟨S33280x2048, .f32⟩
  | .hbm, ⟨42, _⟩ => ⟨S33280x2048, .f32⟩
  | .hbm, ⟨43, _⟩ => ⟨S1x2048, .f32⟩
  | .hbm, ⟨44, _⟩ => ⟨S33280x2048, .f32⟩
  | .hbm, ⟨45, _⟩ => ⟨S33280x2048, .f32⟩
  | .hbm, ⟨46, _⟩ => ⟨S33280x2048, .bf16⟩
  | _, _ => ⟨S33280x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S33280x2048 : Shape := ⟨2, ![33280, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S640x2048 : Shape := ⟨2, ![640, 2048]⟩
abbrev S1x2048x2048 : Shape := ⟨3, ![1, 2048, 2048]⟩
abbrev S320x2048 : Shape := ⟨2, ![320, 2048]⟩
abbrev S2048x2048 : Shape := ⟨2, ![2048, 2048]⟩
abbrev S320 : Shape := ⟨1, ![320]⟩
abbrev S320x1 : Shape := ⟨2, ![320, 1]⟩

abbrev nBuf : Space → Nat
  | .hbm => 14
  | .vmem => 11
  | .smem => 0
  | _ => 0

abbrev bufTy : (tb : Table) → Fin (tcTables nBuf tb) → BufTy
  | .hbm, ⟨0, _⟩ => ⟨S33280x2048, .bf16⟩
  | .hbm, ⟨1, _⟩ => ⟨S4x2048x2048, .f32⟩
  | .hbm, ⟨2, _⟩ => ⟨S33280x2048, .f32⟩
  | .hbm, ⟨3, _⟩ => ⟨S4x2048, .f32⟩
  | .hbm, ⟨4, _⟩ => ⟨S4x2048, .f32⟩
  | .hbm, ⟨5, _⟩ => ⟨S4x2048x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S33280x2048, .f32⟩
  | .hbm, ⟨13, _⟩ => ⟨S33280x2048, .bf16⟩
  | .local _ .vmem, ⟨0, _⟩ => ⟨S640x2048, .bf16⟩
  | .local _ .vmem, ⟨1, _⟩ => ⟨S640x2048, .bf16⟩
  | .local _ .vmem, ⟨2, _⟩ => ⟨S1x2048x2048, .bf16⟩
  | .local _ .vmem, ⟨3, _⟩ => ⟨S640x2048, .f32⟩
  | .local _ .vmem, ⟨4, _⟩ => ⟨S640x2048, .f32⟩
  | .local _ .vmem, ⟨5, _⟩ => ⟨S1x2048, .f32⟩
  | .local _ .vmem, ⟨6, _⟩ => ⟨S1x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .vmem, ⟨10, _⟩ => ⟨S640x2048, .bf16⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![52, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S33280x2048 : Shape := ⟨2, ![33280, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S33280 : Shape := ⟨1, ![33280]⟩
abbrev S33280x1 : Shape := ⟨2, ![33280, 1]⟩

abbrev nBuf : Space → Nat
  | .hbm => 47
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S4x2048x2048, .f32⟩
  | .hbm, ⟨2, _⟩ => ⟨S33280x2048, .f32⟩
  | .hbm, ⟨3, _⟩ => ⟨S4x2048, .f32⟩
  | .hbm, ⟨4, _⟩ => ⟨S4x2048, .f32⟩
  | .hbm, ⟨5, _⟩ => ⟨S33280x2048, .f32⟩
  | .hbm, ⟨6, _⟩ => ⟨S1x2048x2048, .f32⟩
  | .hbm, ⟨7, _⟩ => ⟨S2048x2048, .f32⟩
  | .hbm, ⟨8, _⟩ => ⟨S33280x2048, .f32⟩
  | .hbm, ⟨9, _⟩ => ⟨S1x2048, .f32⟩
  | .hbm, ⟨10, _⟩ => ⟨S2048, .f32⟩
  | .hbm, ⟨11, _⟩ => ⟨S33280x2048, .f32⟩
  | .hbm, ⟨12, _⟩ => ⟨S_, .f32⟩
  | .hbm, ⟨13, _⟩ => ⟨S33280, .f32⟩
  | .hbm, ⟨14, _⟩ => ⟨S33280x1, .f32⟩
  | .hbm, ⟨15, _⟩ => ⟨S_, .f32⟩
  | .hbm, ⟨16, _⟩ => ⟨S33280x1, .f32⟩
  | .hbm, ⟨17, _⟩ => ⟨S33280x1, .f32⟩
  | .hbm, ⟨18, _⟩ => ⟨S_, .f32⟩
  | .hbm, ⟨19, _⟩ => ⟨S33280x1, .f32⟩
  | .hbm, ⟨20, _⟩ => ⟨S33280x1, .f32⟩
  | .hbm, ⟨21, _⟩ => ⟨S33280x1, .f32⟩
  | .hbm, ⟨22, _⟩ => ⟨S33280x2048, .f32⟩
  | .hbm, ⟨23, _⟩ => ⟨S33280x2048, .f32⟩
  | .hbm, ⟨24, _⟩ => ⟨S1x2048, .f32⟩
  | .hbm, ⟨25, _⟩ => ⟨S33280x2048, .f32⟩
  | .hbm, ⟨26, _⟩ => ⟨S33280x2048, .f32⟩
  | .hbm, ⟨27, _⟩ => ⟨S33280x2048, .f32⟩
  | .hbm, ⟨28, _⟩ => ⟨S1x2048, .f32⟩
  | .hbm, ⟨29, _⟩ => ⟨S2048, .f32⟩
  | .hbm, ⟨30, _⟩ => ⟨S33280x2048, .f32⟩
  | .hbm, ⟨31, _⟩ => ⟨S_, .f32⟩
  | .hbm, ⟨32, _⟩ => ⟨S33280, .f32⟩
  | .hbm, ⟨33, _⟩ => ⟨S33280x1, .f32⟩
  | .hbm, ⟨34, _⟩ => ⟨S_, .f32⟩
  | .hbm, ⟨35, _⟩ => ⟨S33280x1, .f32⟩
  | .hbm, ⟨36, _⟩ => ⟨S33280x1, .f32⟩
  | .hbm, ⟨37, _⟩ => ⟨S_, .f32⟩
  | .hbm, ⟨38, _⟩ => ⟨S33280x1, .f32⟩
  | .hbm, ⟨39, _⟩ => ⟨S33280x1, .f32⟩
  | .hbm, ⟨40, _⟩ => ⟨S33280x1, .f32⟩
  | .hbm, ⟨41, _⟩ => ⟨S33280x2048, .f32⟩
  | .hbm, ⟨42, _⟩ => ⟨S33280x2048, .f32⟩
  | .hbm, ⟨43, _⟩ => ⟨S1x2048, .f32⟩
  | .hbm, ⟨44, _⟩ => ⟨S33280x2048, .f32⟩
  | .hbm, ⟨45, _⟩ => ⟨S33280x2048, .f32⟩
  | .hbm, ⟨46, _⟩ => ⟨S33280x2048, .bf16⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel6.lean ====
abbrev S33280x2048 : Shape := ⟨2, ![33280, 2048]⟩
abbrev S4x2048x19712 : Shape := ⟨3, ![4, 2048, 19712]⟩
abbrev S33280x5120 : Shape := ⟨2, ![33280, 5120]⟩
abbrev S1664x2048 : Shape := ⟨2, ![1664, 2048]⟩
abbrev S1x2048x1024 : Shape := ⟨3, ![1, 2048, 1024]⟩
abbrev S1664x1024 : Shape := ⟨2, ![1664, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x5120, .f32⟩
  | .local _ .vmem, ⟨0, _⟩ => ⟨S1664x2048, .bf16⟩
  | .local _ .vmem, ⟨1, _⟩ => ⟨S1664x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1664x1024, .f32⟩
  | .local _ .vmem, ⟨5, _⟩ => ⟨S1664x1024, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S33280x2048 : Shape := ⟨2, ![33280, 2048]⟩
abbrev S4x2048x19712 : Shape := ⟨3, ![4, 2048, 19712]⟩
abbrev S1x2048x5120 : Shape := ⟨3, ![1, 2048, 5120]⟩
abbrev S2048x5120 : Shape := ⟨2, ![2048, 5120]⟩
abbrev S33280x5120 : Shape := ⟨2, ![33280, 5120]⟩

abbrev nBuf : Space → Nat
  | .hbm => 7
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x2048, .f32⟩
  | .hbm, ⟨3, _⟩ => ⟨S1x2048x5120, .bf16⟩
  | .hbm, ⟨4, _⟩ => ⟨S2048x5120, .bf16⟩
  | .hbm, ⟨5, _⟩ => ⟨S2048x5120, .f32⟩
  | .hbm, ⟨6, _⟩ => ⟨S33280x5120, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S33280x2048 : Shape := ⟨2, ![33280, 2048]⟩
abbrev S4x2048x19712 : Shape := ⟨3, ![4, 2048, 19712]⟩
abbrev S33280x4096 : Shape := ⟨2, ![33280, 4096]⟩
abbrev S1664x2048 : Shape := ⟨2, ![1664, 2048]⟩
abbrev S1x2048x1024 : Shape := ⟨3, ![1, 2048, 1024]⟩
abbrev S1664x1024 : Shape := ⟨2, ![1664, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x4096, .f32⟩
  | .local _ .vmem, ⟨0, _⟩ => ⟨S1664x2048, .bf16⟩
  | .local _ .vmem, ⟨1, _⟩ => ⟨S1664x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1664x1024, .f32⟩
  | .local _ .vmem, ⟨5, _⟩ => ⟨S1664x1024, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S33280x2048 : Shape := ⟨2, ![33280, 2048]⟩
abbrev S4x2048x19712 : Shape := ⟨3, ![4, 2048, 19712]⟩
abbrev S1x2048x4096 : Shape := ⟨3, ![1, 2048, 4096]⟩
abbrev S2048x4096 : Shape := ⟨2, ![2048, 4096]⟩
abbrev S33280x4096 : Shape := ⟨2, ![33280, 4096]⟩

abbrev nBuf : Space → Nat
  | .hbm => 7
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x2048, .f32⟩
  | .hbm, ⟨3, _⟩ => ⟨S1x2048x4096, .bf16⟩
  | .hbm, ⟨4, _⟩ => ⟨S2048x4096, .bf16⟩
  | .hbm, ⟨5, _⟩ => ⟨S2048x4096, .f32⟩
  | .hbm, ⟨6, _⟩ => ⟨S33280x4096, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S33280x2048 : Shape := ⟨2, ![33280, 2048]⟩
abbrev S4x2048x19712 : Shape := ⟨3, ![4, 2048, 19712]⟩
abbrev S33280x3584 : Shape := ⟨2, ![33280, 3584]⟩
abbrev S1280x2048 : Shape := ⟨2, ![1280, 2048]⟩
abbrev S1x2048x1792 : Shape := ⟨3, ![1, 2048, 1792]⟩
abbrev S1280x1792 : Shape := ⟨2, ![1280, 1792]⟩
abbrev S2048x1792 : Shape := ⟨2, ![2048, 1792]⟩

abbrev nBuf : Space → Nat
  | .hbm => 3
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x3584, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S1280x1792, .f32⟩
  | .local _ .vmem, ⟨5, _⟩ => ⟨S1280x1792, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S33280x2048 : Shape := ⟨2, ![33280, 2048]⟩
abbrev S4x2048x19712 : Shape := ⟨3, ![4, 2048, 19712]⟩
abbrev S1x2048x3584 : Shape := ⟨3, ![1, 2048, 3584]⟩
abbrev S2048x3584 : Shape := ⟨2, ![2048, 3584]⟩
abbrev S33280x3584 : Shape := ⟨2, ![33280, 3584]⟩

abbrev nBuf : Space → Nat
  | .hbm => 7
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S4x2048x19712, .bf16⟩
  | .hbm, ⟨2, _⟩ => ⟨S33280x2048, .f32⟩
  | .hbm, ⟨3, _⟩ => ⟨S1x2048x3584, .bf16⟩
  | .hbm, ⟨4, _⟩ => ⟨S2048x3584, .bf16⟩
  | .hbm, ⟨5, _⟩ => ⟨S2048x3584, .f32⟩
  | .hbm, ⟨6, _⟩ => ⟨S33280x3584, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S4x2048x18752 : Shape := ⟨3, ![4, 2048, 18752]⟩
abbrev S4x18752x2048 : Shape := ⟨3, ![4, 18752, 2048]⟩
abbrev S4x2048x19712 : Shape := ⟨3, ![4, 2048, 19712]⟩
abbrev S1x18752x128 : Shape := ⟨3, ![1, 18752, 128]⟩
abbrev S1x128x19712 : Shape := ⟨3, ![1, 128, 19712]⟩
abbrev S1x4096x128 : Shape := ⟨3, ![1, 4096, 128]⟩
abbrev S4096x128 : Shape := ⟨2, ![4096, 128]⟩
abbrev S128x4096 : Shape := ⟨2, ![128, 4096]⟩
abbrev S1x128x4096 : Shape := ⟨3, ![1, 128, 4096]⟩
abbrev S1x5120x128 : Shape := ⟨3, ![1, 5120, 128]⟩
abbrev S5120x128 : Shape := ⟨2, ![5120, 128]⟩
abbrev S128x5120 : Shape := ⟨2, ![128, 5120]⟩
abbrev S1x128x5120 : Shape := ⟨3, ![1, 128, 5120]⟩
abbrev S1x6144x128 : Shape := ⟨3, ![1, 6144, 128]⟩
abbrev S6144x128 : Shape := ⟨2, ![6144, 128]⟩
abbrev S128x6144 : Shape := ⟨2, ![128, 6144]⟩
abbrev S1x128x6144 : Shape := ⟨3, ![1, 128, 6144]⟩
abbrev S128x768 : Shape := ⟨2, ![128, 768]⟩
abbrev S1x128x768 : Shape := ⟨3, ![1, 128, 768]⟩
abbrev S1x3456x128 : Shape := ⟨3, ![1, 3456, 128]⟩
abbrev S3456x128 : Shape := ⟨2, ![3456, 128]⟩
abbrev S128x3456 : Shape := ⟨2, ![128, 3456]⟩
abbrev S1x128x3456 : Shape := ⟨3, ![1, 128, 3456]⟩
abbrev S1x128x128 : Shape := ⟨3, ![1, 128, 128]⟩
abbrev S128x128 : Shape := ⟨2, ![128, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x18752, .f32⟩
  | .hbm, ⟨1, _⟩ => ⟨S4x18752x2048, .f32⟩
  | .hbm, ⟨2, _⟩ => ⟨S4x2048x19712, .bf16⟩
  | .local _ .vmem, ⟨0, _⟩ => ⟨S1x18752x128, .f32⟩
  | .local _ .vmem, ⟨1, _⟩ => ⟨S1x18752x128, .f32⟩
  | .local _ .vmem, ⟨2, _⟩ => ⟨S1x128x19712, .bf16⟩
  | .local _ .vmem, ⟨3, _⟩ => ⟨S1x128x19712, .bf16⟩
  | _, _ => ⟨S4x2048x18752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x18752x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x19712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S4x2048x18752 : Shape := ⟨3, ![4, 2048, 18752]⟩
abbrev S4x2048x4096 : Shape := ⟨3, ![4, 2048, 4096]⟩
abbrev S4x2048x3360 : Shape := ⟨3, ![4, 2048, 3360]⟩
abbrev S4x2048x5120 : Shape := ⟨3, ![4, 2048, 5120]⟩
abbrev S4x2048x32 : Shape := ⟨3, ![4, 2048, 32]⟩
abbrev S4x2048x6144 : Shape := ⟨3, ![4, 2048, 6144]⟩
abbrev S_ : Shape := ⟨0, ![]⟩
abbrev S4x2048x768 : Shape := ⟨3, ![4, 2048, 768]⟩
abbrev S4x2048x96 : Shape := ⟨3, ![4, 2048, 96]⟩
abbrev S4x2048x19712 : Shape := ⟨3, ![4, 2048, 19712]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x18752, .f32⟩
  | .hbm, ⟨1, _⟩ => ⟨S4x2048x4096, .f32⟩
  | .hbm, ⟨2, _⟩ => ⟨S4x2048x3360, .f32⟩
  | .hbm, ⟨3, _⟩ => ⟨S4x2048x5120, .f32⟩
  | .hbm, ⟨4, _⟩ => ⟨S4x2048x32, .f32⟩
  | .hbm, ⟨5, _⟩ => ⟨S4x2048x6144, .f32⟩
  | .hbm, ⟨6, _⟩ => ⟨S_, .f32⟩
  | .hbm, ⟨7, _⟩ => ⟨S4x2048x768, .f32⟩
  | .hbm, ⟨8, _⟩ => ⟨S4x2048x96, .f32⟩
  | .hbm, ⟨9, _⟩ => ⟨S4x2048x96, .f32⟩
  | .hbm, ⟨10, _⟩ => ⟨S4x2048x19712, .f32⟩
  | .hbm, ⟨11, _⟩ => ⟨S4x2048x19712, .bf16⟩
  | _, _ => ⟨S4x2048x18752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel10.lean ====
abbrev S4x8192x2048 : Shape := ⟨3, ![4, 8192, 2048]⟩
abbrev S16x2048 : Shape := ⟨2, ![16, 2048]⟩
abbrev S4x2048 : Shape := ⟨2, ![4, 2048]⟩
abbrev S1x16x2048 : Shape := ⟨3, ![1, 16, 2048]⟩
abbrev S4x16x2048 : Shape := ⟨3, ![4, 16, 2048]⟩
abbrev S_ : Shape := ⟨0, ![]⟩
abbrev S4x112x2048 : Shape := ⟨3, ![4, 112, 2048]⟩
abbrev S4x8320x2048 : Shape := ⟨3, ![4, 8320, 2048]⟩
abbrev S33280x2048 : Shape := ⟨2, ![33280, 2048]⟩
abbrev S1x2048 : Shape := ⟨2, ![1, 2048]⟩
abbrev S2048 : Shape := ⟨1, ![2048]⟩
abbrev S1664x2048 : Shape := ⟨2, ![1664, 2048]⟩
abbrev S1664 : Shape := ⟨1, ![1664]⟩
abbrev S1664x1 : Shape := ⟨2, ![1664, 1]⟩

abbrev nBuf : Space → Nat
  | .hbm => 13
  | .vmem => 5
  | .smem => 0
  | _ => 0

abbrev bufTy : (tb : Table) → Fin (tcTables nBuf tb) → BufTy
  | .hbm, ⟨0, _⟩ => ⟨S4x8192x2048, .f32⟩
  | .hbm, ⟨1, _⟩ => ⟨S16x2048, .f32⟩
  | .hbm, ⟨2, _⟩ => ⟨S4x2048, .f32⟩
  | .hbm, ⟨3, _⟩ => ⟨S1x16x2048, .f32⟩
  | .hbm, ⟨4, _⟩ => ⟨S4x16x2048, .f32⟩
  | .hbm, ⟨5, _⟩ => ⟨S_, .f32⟩
  | .hbm, ⟨6, _⟩ => ⟨S4x112x2048, .f32⟩
  | .hbm, ⟨7, _⟩ => ⟨S4x8320x2048, .f32⟩
  | .hbm, ⟨8, _⟩ => ⟨S33280x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S33280x2048, .bf16⟩
  | .local _ .vmem, ⟨0, _⟩ => ⟨S1664x2048, .f32⟩
  | .local _ .vmem, ⟨1, _⟩ => ⟨S1664x2048, .f32⟩
  | .local _ .vmem, ⟨2, _⟩ => ⟨S1x2048, .f32⟩
  | .local _ .vmem, ⟨3, _⟩ => ⟨S1664x2048, .bf16⟩
  | .local _ .vmem, ⟨4, _⟩ => ⟨S1664x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1664x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1664x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4x8192x2048 : Shape := ⟨3, ![4, 8192, 2048]⟩
abbrev S16x2048 : Shape := ⟨2, ![16, 2048]⟩
abbrev S4x2048 : Shape := ⟨2, ![4, 2048]⟩
abbrev S1x16x2048 : Shape := ⟨3, ![1, 16, 2048]⟩
abbrev S4x16x2048 : Shape := ⟨3, ![4, 16, 2048]⟩
abbrev S4x8208x2048 : Shape := ⟨3, ![4, 8208, 2048]⟩
abbrev S1x2048 : Shape := ⟨2, ![1, 2048]⟩
abbrev S2048 : Shape := ⟨1, ![2048]⟩
abbrev S_ : Shape := ⟨0, ![]⟩
abbrev S4x8208 : Shape := ⟨2, ![4, 8208]⟩
abbrev S4x8208x1 : Shape := ⟨3, ![4, 8208, 1]⟩
abbrev S1x1x2048 : Shape := ⟨3, ![1, 1, 2048]⟩
abbrev S4x8320x2048 : Shape := ⟨3, ![4, 8320, 2048]⟩
abbrev S33280x2048 : Shape := ⟨2, ![33280, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S16x2048, .f32⟩
  | .hbm, ⟨2, _⟩ => ⟨S4x2048, .f32⟩
  | .hbm, ⟨3, _⟩ => ⟨S1x16x2048, .f32⟩
  | .hbm, ⟨4, _⟩ => ⟨S4x16x2048, .f32⟩
  | .hbm, ⟨5, _⟩ => ⟨S4x8208x2048, .f32⟩
  | .hbm, ⟨6, _⟩ => ⟨S1x2048, .f32⟩
  | .hbm, ⟨7, _⟩ => ⟨S2048, .f32⟩
  | .hbm, ⟨8, _⟩ => ⟨S4x8208x2048, .f32⟩
  | .hbm, ⟨9, _⟩ => ⟨S_, .f32⟩
  | .hbm, ⟨10, _⟩ => ⟨S4x8208, .f32⟩
  | .hbm, ⟨11, _⟩ => ⟨S4x8208x1, .f32⟩
  | .hbm, ⟨12, _⟩ => ⟨S_, .f32⟩
  | .hbm, ⟨13, _⟩ => ⟨S4x8208x1, .f32⟩
  | .hbm, ⟨14, _⟩ => ⟨S4x8208x1, .f32⟩
  | .hbm, ⟨15, _⟩ => ⟨S_, .f32⟩
  | .hbm, ⟨16, _⟩ => ⟨S4x8208x1, .f32⟩
  | .hbm, ⟨17, _⟩ => ⟨S4x8208x1, .f32⟩
  | .hbm, ⟨18, _⟩ => ⟨S4x8208x1, .f32⟩
  | .hbm, ⟨19, _⟩ => ⟨S4x8208x2048, .f32⟩
  | .hbm, ⟨20, _⟩ => ⟨S4x8208x2048, .f32⟩
  | .hbm, ⟨21, _⟩ => ⟨S1x1x2048, .f32⟩
  | .hbm, ⟨22, _⟩ => ⟨S4x8208x2048, .f32⟩
  | .hbm, ⟨23, _⟩ => ⟨S4x8208x2048, .f32⟩
  | .hbm, ⟨24, _⟩ => ⟨S_, .i32⟩
  | .hbm, ⟨25, _⟩ => ⟨S_, .f32⟩
  | .hbm, ⟨26, _⟩ => ⟨S4x8320x2048, .f32⟩
  | .hbm, ⟨27, _⟩ => ⟨S33280x2048, .f32⟩
  | .hbm, ⟨28, _⟩ => ⟨S33280x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel11.lean ====
abbrev S33280x5120 : Shape := ⟨2, ![33280, 5120]⟩
abbrev S33280x3584 : Shape := ⟨2, ![33280, 3584]⟩
abbrev S4x4x3072 : Shape := ⟨3, ![4, 4, 3072]⟩
abbrev S4x3072 : Shape := ⟨2, ![4, 3072]⟩
abbrev S4x32 : Shape := ⟨2, ![4, 32]⟩
abbrev S4x2048 : Shape := ⟨2, ![4, 2048]⟩
abbrev S1x4x3072 : Shape := ⟨3, ![1, 4, 3072]⟩
abbrev S1x3072 : Shape := ⟨2, ![1, 3072]⟩
abbrev S3072 : Shape := ⟨1, ![3072]⟩
abbrev S1x32 : Shape := ⟨2, ![1, 32]⟩
abbrev S32 : Shape := ⟨1, ![32]⟩
abbrev S1x2048 : Shape := ⟨2, ![1, 2048]⟩
abbrev S2048 : Shape := ⟨1, ![2048]⟩
abbrev S128 : Shape := ⟨1, ![128]⟩
abbrev S128x1 : Shape := ⟨2, ![128, 1]⟩
abbrev S_ : Shape := ⟨0, ![]⟩
abbrev S128x2048 : Shape := ⟨2, ![128, 2048]⟩
abbrev S4x1024 : Shape := ⟨2, ![4, 1024]⟩
abbrev S1024 : Shape := ⟨1, ![1024]⟩
abbrev S1x1024 : Shape := ⟨2, ![1, 1024]⟩
abbrev S1x128 : Shape := ⟨2, ![1, 128]⟩
abbrev S32x64 : Shape := ⟨2, ![32, 64]⟩
abbrev S33280x2048 : Shape := ⟨2, ![33280, 2048]⟩
abbrev S128x1024 : Shape := ⟨2, ![128, 1024]⟩
abbrev S128x128 : Shape := ⟨2, ![128, 128]⟩
abbrev S136x2048 : Shape := ⟨2, ![136, 2048]⟩
abbrev S136x1024 : Shape := ⟨2, ![136, 1024]⟩
abbrev S4x128x512 : Shape := ⟨3, ![4, 128, 512]⟩
abbrev S8x2048 : Shape := ⟨2, ![8, 2048]⟩
abbrev S8x1024 : Shape := ⟨2, ![8, 1024]⟩
abbrev S1x128x512 : Shape := ⟨3, ![1, 128, 512]⟩
abbrev S128x512 : Shape := ⟨2, ![128, 512]⟩
abbrev S1x512 : Shape := ⟨2, ![1, 512]⟩
abbrev S128x64 : Shape := ⟨2, ![128, 64]⟩

abbrev nBuf : Space → Nat
  | .hbm => 65
  | .vmem => 23
  | .smem => 0
  | _ => 0

abbrev bufTy : (tb : Table) → Fin (tcTables nBuf tb) → BufTy
  | .hbm, ⟨0, _⟩ => ⟨S33280x5120, .f32⟩
  | .hbm, ⟨1, _⟩ => ⟨S33280x3584, .f32⟩
  | .hbm, ⟨2, _⟩ => ⟨S4x4x3072, .f32⟩
  | .hbm, ⟨3, _⟩ => ⟨S4x3072, .f32⟩
  | .hbm, ⟨4, _⟩ => ⟨S4x32, .f32⟩
  | .hbm, ⟨5, _⟩ => ⟨S4x32, .f32⟩
  | .hbm, ⟨6, _⟩ => ⟨S4x32, .f32⟩
  | .hbm, ⟨7, _⟩ => ⟨S4x2048, .f32⟩
  | .hbm, ⟨8, _⟩ => ⟨S1x4x3072, .f32⟩
  | .hbm, ⟨9, _⟩ => ⟨S4x3072, .f32⟩
  | .hbm, ⟨10, _⟩ => ⟨S1x3072, .f32⟩
  | .hbm, ⟨11, _⟩ => ⟨S3072, .f32⟩
  | .hbm, ⟨12, _⟩ => ⟨S1x32, .f32⟩
  | .hbm, ⟨13, _⟩ => ⟨S32, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S1x2048, .f32⟩
  | .hbm, ⟨19, _⟩ => ⟨S2048, .f32⟩
  | .hbm, ⟨20, _⟩ => ⟨S128, .i32⟩
  | .hbm, ⟨21, _⟩ => ⟨S128x1, .i32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S1x2048, .i32⟩
  | .hbm, ⟨42, _⟩ => ⟨S128x2048, .i32⟩
  | .hbm, ⟨43, _⟩ => ⟨S128x2048, .i32⟩
  | .hbm, ⟨44, _⟩ => ⟨S128x2048, .i1⟩
  | .hbm, ⟨45, _⟩ => ⟨S128x2048, .bf16⟩
  | .hbm, ⟨46, _⟩ => ⟨S4x2048, .f32⟩
  | .hbm, ⟨47, _⟩ => ⟨S4x1024, .f32⟩
  | .hbm, ⟨48, _⟩ => ⟨S2048, .f32⟩
  | .hbm, ⟨49, _⟩ => ⟨S1x2048, .f32⟩
  | .hbm, ⟨50, _⟩ => ⟨S1024, .f32⟩
  | .hbm, ⟨51, _⟩ => ⟨S1x1024, .f32⟩
  | .hbm, ⟨52, _⟩ => ⟨S_, .i32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S_, .i32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S32x64, .f32⟩
  | .hbm, ⟨61, _⟩ => ⟨S2048, .f32⟩
  | .hbm, ⟨62, _⟩ => ⟨S1x2048, .f32⟩
  | .hbm, ⟨63, _⟩ => ⟨S1x2048, .f32⟩
  | .hbm, ⟨64, _⟩ => ⟨S33280x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S4x2048, .f32⟩
  | .local _ .vmem, ⟨9, _⟩ => ⟨S4x1024, .f32⟩
  | .local _ .vmem, ⟨10, _⟩ => ⟨S1x2048, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S128x2048, .bf16⟩
  | .local _ .vmem, ⟨15, _⟩ => ⟨S1x2048, .f32⟩
  | .local _ .vmem, ⟨16, _⟩ => ⟨S1x2048, .f32⟩
  | .local _ .vmem, ⟨17, _⟩ => ⟨S128x2048, .bf16⟩
  | .local _ .vmem, ⟨18, _⟩ => ⟨S128x2048, .bf16⟩
  | .local _ .vmem, ⟨19, _⟩ => ⟨S136x2048, .f32⟩
  | .local _ .vmem, ⟨20, _⟩ => ⟨S136x1024, .f32⟩
  | .local _ .vmem, ⟨21, _⟩ => ⟨S4x128x512, .f32⟩
  | .local _ .vmem, ⟨22, _⟩ => ⟨S128x2048, .f32⟩
  | _, _ => ⟨S33280x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_0 : Ref sig .tc := ⟨.hbm, 52, rfl⟩
abbrev main_call1_v0 : Ref sig .tc := ⟨.hbm, 53, rfl⟩
abbrev main_v27 : Ref sig .tc := ⟨.hbm, 54, rfl⟩
abbrev main_v28 : Ref sig .tc := ⟨.hbm, 55, rfl⟩
abbrev main_c_1 : Ref sig .tc := ⟨.hbm, 56, rfl⟩
abbrev main_call2_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 65], ![false, false]⟩

def cc0_transform_0 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c27_i32 : BitVec 32 := 27#32
  let c0_i32 : BitVec 32 := 0#32
  ![v1.toNat, c27_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.Stage.lean ====
/-
  One chunk of the retention, read at an index: what a chunk of 128 rows computes for one head from its queries, keys,
  values and gates, the rotary tables, the mask and decays, and the state it enters with. Both programs are brought to
  these terms. Everything is over the extended reals.
-/
module

public import proofs.«01_k».proof.Defs
public import Idealize.ShloMosaic.Lib.Pointwise
public import Idealize.ShloMosaic.PureOps.Ideal

@[expose] public section

noncomputable section

open Idealize.ShloMosaic

namespace Cert.Proof.Stage

/-- Column of lane `d` of head `h` among the 1024 columns of a block. -/
def col (h : Fin 8) (d : Fin 128) : Fin 1024 := ⟨128 * h.val + d.val, by omega⟩

/-- The lane a half turn away. -/
def half (d : Fin 128) : Fin 128 := ⟨(d.val + 128 - 64) % 128, by omega⟩

/-- A rotated lane: the lane by its cosine plus the lane half a turn away by its signed sine. -/
def rot (t : Fin 128 → EReal) (cs sn : Fin 128 → EReal) (d : Fin 128) : EReal := t d * cs d + t (half d) * sn d

/-- The scaling of the keys, `128 ^ -0.5` as the word both programs hold. -/
def kscale : EReal := Scalar.ofBits (F := Ideal) .f32 0x3DB504F3#32

/-- A row of the chunk's attention: query row `i` against key row `j`, times the decay mask. -/
def score (q k : Fin 128 → Fin 128 → EReal) (mask : Fin 128 → Fin 128 → EReal) (i j : Fin 128) : EReal :=
  (∑ d : Fin 128, q i d * k j d) * mask i j

/-- The chunk's retention before normalisation: what the entering state gives plus what the chunk's own rows give. -/
def mix (q k v : Fin 128 → Fin 128 → EReal) (mask : Fin 128 → Fin 128 → EReal) (qd : Fin 128 → Fin 128 → EReal)
    (st : Fin 128 → Fin 128 → EReal) (i e : Fin 128) : EReal :=
  (∑ d : Fin 128, (q i d * qd i d) * st d e) + ∑ j : Fin 128, score q k mask i j * v j e

/-- The state the chunk leaves: the entering state decayed plus the chunk's decayed keys against its values. -/
def next (k v : Fin 128 → Fin 128 → EReal) (kd : Fin 128 → Fin 128 → EReal) (dec : EReal)
    (st : Fin 128 → Fin 128 → EReal) (d e : Fin 128) : EReal :=
  st d e * dec + ∑ j : Fin 128, (k j d * kd j d) * v j e

/-- A gate: `g * sigmoid g`. -/
def gate (g : EReal) : EReal :=
  g * Ideal.div 1 (1 + Ideal.exp (0 - g))

/-- A row normalised by its root mean square. -/
def rms (y : Fin 128 → EReal) (e : Fin 128) : EReal :=
  y e * Ideal.rsqrt (Ideal.div (∑ d : Fin 128, y d * y d) (Scalar.ofBits (F := Ideal) .f32 0x43000000#32)
    + Scalar.ofBits (F := Ideal) .f32 0x358637BD#32)

/-- Head `h`'s lanes of a block of 128 rows. -/
def lanes (x : Vec Ideal ⟨2, ![128, 1024]⟩ .f32) (h : Fin 8) (i d : Fin 128) : EReal := x (ix2 i (col h d))

/-- Head `h`'s square of a stack of eight. -/
def square (x : Vec Ideal ⟨3, ![8, 128, 128]⟩ .f32) (h : Fin 8) (i d : Fin 128) : EReal := x (ix3 h i d)

/-- Rotated queries (keys without their scaling) of head `h`. -/
def turned (x : Vec Ideal ⟨2, ![128, 1024]⟩ .f32) (cs sn : Vec Ideal ⟨2, ![128, 128]⟩ .f32) (h : Fin 8) (i : Fin 128) :
    Fin 128 → EReal :=
  rot (lanes x h i) (fun d => cs (ix2 i d)) (fun d => sn (ix2 i d))

/-- What head `h` of a chunk gives out at row `i`, lane `e`. -/
def given (xq xk xv xg : Vec Ideal ⟨2, ![128, 1024]⟩ .f32) (cs sn : Vec Ideal ⟨2, ![128, 128]⟩ .f32)
    (st mask qd : Vec Ideal ⟨3, ![8, 128, 128]⟩ .f32) (h : Fin 8) (i e : Fin 128) : EReal :=
  gate (lanes xg h i e) * rms (mix (turned xq cs sn h) (fun j d => turned xk cs sn h j d * kscale) (lanes xv h)
    (square mask h) (square qd h) (square st h) i) e

/-- The state head `h` leaves. -/
def left (xk xv : Vec Ideal ⟨2, ![128, 1024]⟩ .f32) (cs sn : Vec Ideal ⟨2, ![128, 128]⟩ .f32)
    (st kd : Vec Ideal ⟨3, ![8, 128, 128]⟩ .f32) (dec : Fin 8 → EReal) (h : Fin 8) (d e : Fin 128) : EReal :=
  next (fun j d => turned xk cs sn h j d * kscale) (lanes xv h) (square kd h) (dec h) (square st h) d e

end Cert.Proof.Stage

end
-- ==== Proof.Model.lean ====
/-
  The retention as both programs compute it, chunk by chunk, over the argument arrays: the padded sequence, the rotary
  tables, the state a batch carries from chunk to chunk, and the value of every result row.
-/
module
public import proofs.«01_k».proof.Proof.Stage
@[expose] public section
noncomputable section
open Idealize.ShloMosaic
namespace Cert.Proof.Model

open Cert.Proof.Stage (col)

/-- An argument: four batches of 8208 rows of 1024 columns. -/
abbrev Arg := Vec Ideal ⟨3, ![4, 8208, 1024]⟩ .f32

/-- Row `i` of chunk `n` in the padded sequence. -/
def pos (n : Fin 65) (i : Fin 128) : Fin 8320 := ⟨128 * n.val + i.val, by omega⟩

/-- The sequence `x` of batch `b` behind 112 zero rows. -/
def padded (x : Arg) (b : Fin 4) (p : Fin 8320) (C : Fin 1024) : EReal :=
  if h : p.val < 112 then 0 else x (ix3 b ⟨p.val - 112, by omega⟩ C)

/-- The angle padded row `p` turns the pair `d` of a head by. -/
def angle (p : Fin 8320) (d : Fin 64) : EReal :=
  FloatOps.sitofp (F := Ideal) FTy.f32 (IntOp.subi (BitVec.ofNat 32 p.val) 112#32) *
    Ideal.pow (Ideal.ofBits FTy.f32 1176256512#32)
      (Ideal.div (-FloatOps.sitofp (F := Ideal) FTy.f32 (BitVec.ofNat 32 d.val)) (Ideal.ofBits FTy.f32 1115684864#32))

/-- The cosine table the kernel reads. -/
def cosT (p : Fin 8320) (d : Fin 128) : EReal :=
  if h : d.val < 64 then Ideal.cos (angle p ⟨d.val, h⟩) else Ideal.cos (angle p ⟨d.val - 64, by omega⟩)

/-- The sine table the kernel reads: negated for the first half of a head. -/
def sinT (p : Fin 8320) (d : Fin 128) : EReal :=
  if h : d.val < 64 then -Ideal.sin (angle p ⟨d.val, h⟩) else Ideal.sin (angle p ⟨d.val - 64, by omega⟩)

/-- Padded row `p` of batch `b` among all the rows. -/
def row (b : Fin 4) (p : Fin 8320) : Fin 33280 := ⟨8320 * b.val + p.val, by omega⟩

/-- Head `h`'s lanes of padded row `p`. -/
def lane (x : Arg) (b : Fin 4) (h : Fin 8) (p : Fin 8320) (d : Fin 128) : EReal := padded x b p (col h d)

/-- Head `h`'s rotated lanes of padded row `p`. -/
def turn (x : Arg) (b : Fin 4) (h : Fin 8) (p : Fin 8320) (d : Fin 128) : EReal := Stage.rot (lane x b h p) (cosT p) (sinT p) d

/-- The rotated and scaled keys. -/
def key (x : Arg) (b : Fin 4) (h : Fin 8) (p : Fin 8320) (d : Fin 128) : EReal := turn x b h p d * Stage.kscale

/-- The state head `h` of batch `b` enters chunk `n` with. -/
def carried (kd : Fin 8 → Fin 128 → EReal) (dec : Fin 8 → EReal) (xk xv : Arg) (b : Fin 4) (h : Fin 8) :
    ℕ → Fin 128 → Fin 128 → EReal
  | 0 => fun _ _ => 0
  | n + 1 => if hn : n < 65 then
      Stage.next (fun j => key xk b h (pos ⟨n, hn⟩ j)) (fun j => lane xv b h (pos ⟨n, hn⟩ j)) (fun j _ => kd h j) (dec h)
        (carried kd dec xk xv b h n)
    else fun _ _ => 0

/-- The retention of row `i` of chunk `n` before normalisation. -/
def mixed (mask : Fin 8 → Fin 128 → Fin 128 → EReal) (qd kd : Fin 8 → Fin 128 → EReal) (dec : Fin 8 → EReal)
    (xq xk xv : Arg) (b : Fin 4) (h : Fin 8) (n : Fin 65) (i e : Fin 128) : EReal :=
  Stage.mix (fun i => turn xq b h (pos n i)) (fun j => key xk b h (pos n j)) (fun j => lane xv b h (pos n j)) (mask h)
    (fun i _ => qd h i) (carried kd dec xk xv b h n.val) i e

/-- The layer's value at row `i` of chunk `n`, head `h`, lane `e`. -/
def value (mask : Fin 8 → Fin 128 → Fin 128 → EReal) (qd kd : Fin 8 → Fin 128 → EReal) (dec : Fin 8 → EReal)
    (xq xk xv xg : Arg) (b : Fin 4) (h : Fin 8) (n : Fin 65) (i e : Fin 128) : EReal :=
  Stage.gate (lane xg b h (pos n i) e) * Stage.rms (mixed mask qd kd dec xq xk xv b h n i) e

end Cert.Proof.Model
end
-- ==== Proof.Body.lean ====
module
public import proofs.«01_k».proof.Proof.Stage
public import proofs.«01_k».proof.Proof.Gen.KernelIdeal.Value
public import Idealize.ShloMosaic.Lib.Pipeline.ReadBack
public import Idealize.ShloMosaic.Lib.Pipeline.ValueKit
@[expose] public section
noncomputable section
open Idealize.ShloMosaic Idealize.SL.Sem Cert.KernelIdeal Cert.KernelIdeal.Gen
namespace Cert.Proof.Body

/-- The decay of a whole chunk, head by head. -/
def decK : Fin 8 → EReal := ![Named.named (F := Ideal) (φ := .f32) κ "dec0" 0x3C8CC36A#32, Named.named (F := Ideal) (φ := .f32) κ "dec1" 0x3E08698E#32,
  Named.named (F := Ideal) (φ := .f32) κ "dec2" 0x3EBB9DB9#32, Named.named (F := Ideal) (φ := .f32) κ "dec3" 0x3F1B1EB1#32,
  Named.named (F := Ideal) (φ := .f32) κ "dec4" 0x3F475303#32, Named.named (F := Ideal) (φ := .f32) κ "dec5" 0x3F61E7C9#32,
  Named.named (F := Ideal) (φ := .f32) κ "dec6" 0x3F707C6F#32, Named.named (F := Ideal) (φ := .f32) κ "dec7" 0x3F781F6D#32]

/-- The logarithm of a head's decay per row. -/
def logK : Fin 8 → EReal := ![Named.named (F := Ideal) (φ := .f32) κ "log_g0" 0xBD020AEC#32, Named.named (F := Ideal) (φ := .f32) κ "log_g1" 0xBC8102B3#32,
  Named.named (F := Ideal) (φ := .f32) κ "log_g2" 0xBC0080AC#32, Named.named (F := Ideal) (φ := .f32) κ "log_g3" 0xBB80402B#32,
  Named.named (F := Ideal) (φ := .f32) κ "log_g4" 0xBB00200B#32, Named.named (F := Ideal) (φ := .f32) κ "log_g5" 0xBA801003#32,
  Named.named (F := Ideal) (φ := .f32) κ "log_g6" 0xBA000801#32, Named.named (F := Ideal) (φ := .f32) κ "log_g7" 0xB9800400#32]

/-- Row `i`'s decay mask against row `j`, as the first chunk stores it. -/
def maskK (h : Fin 8) (i j : Fin 128) : EReal :=
  Scalar.select (IntOp.cmpi .sge (BitVec.ofNat 32 i.val) (BitVec.ofNat 32 j.val))
    (Ideal.exp (FloatOps.sitofp (F := Ideal) .f32 (Scalar.select (IntOp.cmpi .sge (BitVec.ofNat 32 i.val) (BitVec.ofNat 32 j.val))
      (IntOp.subi (BitVec.ofNat 32 i.val) (BitVec.ofNat 32 j.val)) 0#32) * logK h)) 0

/-- The decay of the queries at row `i`, as the first chunk stores it. -/
def qdecK (h : Fin 8) (i : Fin 128) : EReal := Ideal.exp ((FloatOps.sitofp (F := Ideal) .f32 (BitVec.ofNat 32 i.val) + 1) * logK h)

/-- The decay of the keys at row `j`, as the first chunk stores it. -/
def kdecK (h : Fin 8) (j : Fin 128) : EReal :=
  Ideal.exp ((Ideal.ofBits .f32 0x42FE0000#32 - FloatOps.sitofp (F := Ideal) .f32 (BitVec.ofNat 32 j.val)) * logK h)

/-- The stored masks. -/
def maskG : Vec Ideal S8x128x128 .f32 := fun y => maskK (y 0) (y 1) (y 2)

/-- The stored query decays, constant along the lanes. -/
def qdecG : Vec Ideal S8x128x128 .f32 := fun y => qdecK (y 0) (y 1)

/-- The stored key decays, constant along the lanes. -/
def kdecG : Vec Ideal S8x128x128 .f32 := fun y => kdecK (y 0) (y 1)

/-- The state before the first chunk. -/
def zeroG : Vec Ideal S8x128x128 .f32 := fun _ => 0

/-- The head a column of a block belongs to. -/
def headOf (y : S128x1024.Idx) : Fin 8 := ⟨(y 1).val / 128, by have := (y 1).isLt; change (y 1).val < 1024 at this; omega⟩

/-- The lane a column of a block is within its head. -/
def laneOf (y : S128x1024.Idx) : Fin 128 := ⟨(y 1).val % 128, by omega⟩

/-- A chunk's rows given out, head by head. -/
def outG (x0 x1 x2 x3 : Vec Ideal S128x1024 .f32) (x4 x5 : Vec Ideal S128x128 .f32) (xs0 xs1 xs2 : Vec Ideal S8x128x128 .f32) :
    Vec Ideal S128x1024 .bf16 :=
  fun y => Stage.given x0 x1 x2 x3 x4 x5 xs0 xs1 xs2 (headOf y) (y 0) (laneOf y)

theorem headOf_col (r : Fin 128) (h : Fin 8) (e : Fin 128) : headOf (ix2 r (Stage.col h e)) = h := by
  ext; change (128 * h.val + e.val) / 128 = h.val; omega

theorem laneOf_col (r : Fin 128) (h : Fin 8) (e : Fin 128) : laneOf (ix2 r (Stage.col h e)) = e := by
  ext; change (128 * h.val + e.val) % 128 = e.val; omega

/-- Head `h`'s columns of a block, as the rectangle that starts at column `128 h`. -/
theorem emb_col (h : Fin 8) (n : ℕ) (hn : n = 128 * h.val) (inb) (r e : Fin 128) :
    (Rect.unit (s := S128x1024) ![0, n] ![128, 128] inb).emb (ix2 r e : S128x128.Idx) = ix2 r (Stage.col h e) := by
  subst hn
  funext a
  match a with
  | 0 => exact Fin.ext (show 0 + 1 * r.val = r.val by omega)
  | 1 => exact Fin.ext (show 128 * h.val + 1 * e.val = 128 * h.val + e.val by omega)

theorem outPiece {x0 x1 x2 x3 : Vec Ideal S128x1024 .f32} {x4 x5 : Vec Ideal S128x128 .f32} {xs0 xs1 xs2 : Vec Ideal S8x128x128 .f32}
    (h : Fin 8) {n : ℕ} (inb) (hn : n = 128 * h.val) (p : Vec Ideal S128x128 .bf16)
    (H : ∀ r e : Fin 128, p (ix2 r e) = Stage.given x0 x1 x2 x3 x4 x5 xs0 xs1 xs2 h r e) (x : S128x128.Idx) :
    p x = outG x0 x1 x2 x3 x4 x5 xs0 xs1 xs2 ((Rect.unit (s := S128x1024) ![0, n] ![128, 128] inb).emb x) := by
  obtain ⟨r, e, rfl⟩ : ∃ r e : Fin 128, x = ix2 r e := ⟨x 0, x 1, eq_ix2 x⟩
  refine (H _ _).trans ?_
  rw [emb_col h n hn]
  unfold outG
  rw [headOf_col, laneOf_col]
  rfl

theorem col_zero (d : Fin 128) : Stage.col 0 d = ⟨d.val, by omega⟩ := Fin.ext (Nat.zero_add d.val)

/-- The state a chunk leaves, head by head. -/
def stG (x1 x2 : Vec Ideal S128x1024 .f32) (x4 x5 : Vec Ideal S128x128 .f32) (xs0 xs3 : Vec Ideal S8x128x128 .f32) : Vec Ideal S8x128x128 .f32 :=
  fun y => Stage.left x1 x2 x4 x5 xs0 xs3 decK (y 0) (y 1) (y 2)

theorem emb_square (h : Fin 8) (n : ℕ) (hn : n = h.val) (inb) (z : Fin 1) (r e : Fin 128) :
    (Rect.unit (s := S8x128x128) ![n, 0, 0] ![1, 128, 128] inb).emb (ix3 z r e : S1x128x128.Idx) = ix3 h r e := by
  subst hn
  funext a
  match a with
  | 0 => exact Fin.ext (show h.val + 1 * z.val = h.val by omega)
  | 1 => exact Fin.ext (show 0 + 1 * r.val = r.val by omega)
  | 2 => exact Fin.ext (show 0 + 1 * e.val = e.val by omega)

theorem squarePiece {G : Vec Ideal S8x128x128 .f32} (h : Fin 8) {n : ℕ} (inb) (hn : n = h.val) (p : Vec Ideal S1x128x128 .f32)
    (H : ∀ r e : Fin 128, p (ix3 0 r e) = G (ix3 h r e)) (x : S1x128x128.Idx) :
    p x = G ((Rect.unit (s := S8x128x128) ![n, 0, 0] ![1, 128, 128] inb).emb x) := by
  obtain ⟨z, r, e, rfl⟩ : ∃ (z : Fin 1) (r e : Fin 128), x = ix3 z r e := ⟨x 0, x 1, x 2, eq_ix3 x⟩
  obtain rfl : z = 0 := Subsingleton.elim _ _
  rw [emb_square h n hn]
  exact H _ _

/-- A payload stored as square `h` is what a load of that square reads. -/
theorem stored {G : Vec Ideal S8x128x128 .f32} (h : Fin 8) {n : ℕ} (inb) (hn : n = h.val) (p : Vec Ideal S1x128x128 .f32)
    (H : ∀ r e : Fin 128, p (ix3 0 r e) = G (ix3 h r e)) :
    p = View.ld G (Rect.unit (s := S8x128x128) ![n, 0, 0] ![1, 128, 128] inb) :=
  funext fun x => squarePiece h inb hn p H x

theorem sq0 (h : Fin 8) (r e : Fin 128) : (ix3 h r e : S8x128x128.Idx) 0 = h := rfl
theorem sq1 (h : Fin 8) (r e : Fin 128) : (ix3 h r e : S8x128x128.Idx) 1 = r := rfl
theorem sq2 (h : Fin 8) (r e : Fin 128) : (ix3 h r e : S8x128x128.Idx) 2 = e := rfl

/-- What the first chunk stores as masks are the squares of `maskG`. -/
theorem stored_masks :
    k0_pay6 (F := Ideal) = View.ld maskG (Rect.unit ![0, 0, 0] ![1, 128, 128] inb_S8x128x128_S1x128x128_0_0_0) ∧
    k0_pay9 (F := Ideal) k0_pay3 (k0_pay4 (F := Ideal)) = View.ld maskG (Rect.unit ![1, 0, 0] ![1, 128, 128] inb_S8x128x128_S1x128x128_1_0_0) ∧
    k0_pay12 (F := Ideal) k0_pay3 (k0_pay4 (F := Ideal)) = View.ld maskG (Rect.unit ![2, 0, 0] ![1, 128, 128] inb_S8x128x128_S1x128x128_2_0_0) ∧
    k0_pay16 (F := Ideal) k0_pay3 (k0_pay4 (F := Ideal)) = View.ld maskG (Rect.unit ![3, 0, 0] ![1, 128, 128] inb_S8x128x128_S1x128x128_3_0_0) ∧
    k0_pay20 (F := Ideal) k0_pay3 (k0_pay4 (F := Ideal)) = View.ld maskG (Rect.unit ![4, 0, 0] ![1, 128, 128] inb_S8x128x128_S1x128x128_4_0_0) ∧
    k0_pay24 (F := Ideal) (k0_pay23 (F := Ideal) k0_pay3 (k0_pay4 (F := Ideal))) = View.ld maskG (Rect.unit ![5, 0, 0] ![1, 128, 128] inb_S8x128x128_S1x128x128_5_0_0) ∧
    k0_pay27 (F := Ideal) k0_pay3 (k0_pay4 (F := Ideal)) = View.ld maskG (Rect.unit ![6, 0, 0] ![1, 128, 128] inb_S8x128x128_S1x128x128_6_0_0) ∧
    k0_pay31 (F := Ideal) k0_pay3 (k0_pay4 (F := Ideal)) = View.ld maskG (Rect.unit ![7, 0, 0] ![1, 128, 128] inb_S8x128x128_S1x128x128_7_0_0) := by
  refine ⟨stored 0 _ rfl _ ?_, stored 1 _ rfl _ ?_, stored 2 _ rfl _ ?_, stored 3 _ rfl _ ?_, stored 4 _ rfl _ ?_, stored 5 _ rfl _ ?_, stored 6 _ rfl _ ?_, stored 7 _ rfl _ ?_⟩
  all_goals
    intro r e
    unfold_payloads
    pointwise
    rfl

/-- What the first chunk stores as query decays are the squares of `qdecG`. -/
theorem stored_qdecs :
    k0_pay7 (F := Ideal) = View.ld qdecG (Rect.unit ![0, 0, 0] ![1, 128, 128] inb_S8x128x128_S1x128x128_0_0_0) ∧
    k0_pay10 (F := Ideal) (k0_pay5 (F := Ideal)) = View.ld qdecG (Rect.unit ![1, 0, 0] ![1, 128, 128] inb_S8x128x128_S1x128x128_1_0_0) ∧
    k0_pay14 (F := Ideal) (k0_pay13 (F := Ideal) (k0_pay5 (F := Ideal))) (Named.named κ "log_g2" 0xBC0080AC#32) = View.ld qdecG (Rect.unit ![2, 0, 0] ![1, 128, 128] inb_S8x128x128_S1x128x128_2_0_0) ∧
    k0_pay17 (F := Ideal) (k0_pay5 (F := Ideal)) = View.ld qdecG (Rect.unit ![3, 0, 0] ![1, 128, 128] inb_S8x128x128_S1x128x128_3_0_0) ∧
    k0_pay21 (F := Ideal) (k0_pay5 (F := Ideal)) = View.ld qdecG (Rect.unit ![4, 0, 0] ![1, 128, 128] inb_S8x128x128_S1x128x128_4_0_0) ∧
    k0_pay25 (F := Ideal) (k0_pay5 (F := Ideal)) = View.ld qdecG (Rect.unit ![5, 0, 0] ![1, 128, 128] inb_S8x128x128_S1x128x128_5_0_0) ∧
    k0_pay28 (F := Ideal) (k0_pay5 (F := Ideal)) = View.ld qdecG (Rect.unit ![6, 0, 0] ![1, 128, 128] inb_S8x128x128_S1x128x128_6_0_0) ∧
    k0_pay32 (F := Ideal) (k0_pay5 (F := Ideal)) = View.ld qdecG (Rect.unit ![7, 0, 0] ![1, 128, 128] inb_S8x128x128_S1x128x128_7_0_0) := by
  refine ⟨stored 0 _ rfl _ ?_, stored 1 _ rfl _ ?_, stored 2 _ rfl _ ?_, stored 3 _ rfl _ ?_, stored 4 _ rfl _ ?_, stored 5 _ rfl _ ?_, stored 6 _ rfl _ ?_, stored 7 _ rfl _ ?_⟩
  all_goals
    intro r e
    unfold_payloads
    pointwise
    rfl

/-- What the first chunk stores as key decays are the squares of `kdecG`. -/
theorem stored_kdecs :
    k0_pay8 (F := Ideal) = View.ld kdecG (Rect.unit ![0, 0, 0] ![1, 128, 128] inb_S8x128x128_S1x128x128_0_0_0) ∧
    k0_pay11 (F := Ideal) (k0_pay5 (F := Ideal)) = View.ld kdecG (Rect.unit ![1, 0, 0] ![1, 128, 128] inb_S8x128x128_S1x128x128_1_0_0) ∧
    k0_pay15 (F := Ideal) (k0_pay5 (F := Ideal)) = View.ld kdecG (Rect.unit ![2, 0, 0] ![1, 128, 128] inb_S8x128x128_S1x128x128_2_0_0) ∧
    k0_pay19 (F := Ideal) (k0_pay18 (F := Ideal) (k0_pay5 (F := Ideal))) = View.ld kdecG (Rect.unit ![3, 0, 0] ![1, 128, 128] inb_S8x128x128_S1x128x128_3_0_0) ∧
    k0_pay22 (F := Ideal) (k0_pay5 (F := Ideal)) = View.ld kdecG (Rect.unit ![4, 0, 0] ![1, 128, 128] inb_S8x128x128_S1x128x128_4_0_0) ∧
    k0_pay26 (F := Ideal) (k0_pay5 (F := Ideal)) = View.ld kdecG (Rect.unit ![5, 0, 0] ![1, 128, 128] inb_S8x128x128_S1x128x128_5_0_0) ∧
    k0_pay30 (F := Ideal) (k0_pay5 (F := Ideal)) (k0_pay29 (F := Ideal)) = View.ld kdecG (Rect.unit ![6, 0, 0] ![1, 128, 128] inb_S8x128x128_S1x128x128_6_0_0) ∧
    k0_pay33 (F := Ideal) (k0_pay5 (F := Ideal)) = View.ld kdecG (Rect.unit ![7, 0, 0] ![1, 128, 128] inb_S8x128x128_S1x128x128_7_0_0) := by
  refine ⟨stored 0 _ rfl _ ?_, stored 1 _ rfl _ ?_, stored 2 _ rfl _ ?_, stored 3 _ rfl _ ?_, stored 4 _ rfl _ ?_, stored 5 _ rfl _ ?_, stored 6 _ rfl _ ?_, stored 7 _ rfl _ ?_⟩
  all_goals
    intro r e
    unfold_payloads
    pointwise
    rfl

/-- The first chunk's fill of the state. -/
theorem stored_zero : k0_pay2 (F := Ideal) = zeroG := by
  funext y
  unfold_payloads
  pointwise
  rfl

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S8x128x128 .f32) (harg12 : arg12.IsWhole)
  (x0 : Vec Ideal S128x1024 .f32) (x1 : Vec Ideal S128x1024 .f32) (x2 : Vec Ideal S128x1024 .f32) (x3 : Vec Ideal S128x1024 .f32) (x4 : Vec Ideal S128x128 .f32) (x5 : Vec Ideal S128x128 .f32) (xs0 : Vec Ideal S8x128x128 .f32) (xs1 : Vec Ideal S8x128x128 .f32) (xs2 : Vec Ideal S8x128x128 .f32) (xs3 : Vec Ideal S8x128x128 .f32)

set_option maxHeartbeats 2000000 in
/-- A later chunk gives out `outG` of its blocks and of what the scratches hold. -/
theorem out_later (hc0 : ¬cond0_0 i) : out0_B_6 c i arg2 harg2 arg3 harg3 arg4 harg4 arg5 harg5 arg6 harg6 arg7 harg7 arg8 harg8 arg9 harg9 arg10 harg10 arg11 harg11 arg12 harg12 hc0 x0 x1 x2 x3 x4 x5 xs0 xs1 xs2 xs3 = outG x0 x1 x2 x3 x4 x5 xs0 xs1 xs2 := by
  funext y
  frame_open
  simp (disch := decide) only [↓ View.readCov_skip, ↓ View.readCov_cons_toLoadRect, ↓ View.readCov_fill]
  frame_out
  refine View.canon_apply_of_pieces (Val := Elt Ideal) (outG x0 x1 x2 x3 x4 x5 xs0 xs1 xs2) _ (View.PiecesOf.mem ?_) y
    (View.cover_of_tiledL _ ![128, 128] (by sl_kernel_rfl) y)
  refine ⟨?_, ?_, ?_, ?_, ?_, ?_, ?_, ?_, trivial⟩
  · exact outPiece 7 inb_S128x1024_S128x128_0_896 rfl _ (fun r e => by unfold_payloads; pointwise; rfl)
  · exact outPiece 6 inb_S128x1024_S128x128_0_768 rfl _ (fun r e => by unfold_payloads; pointwise; rfl)
  · exact outPiece 5 inb_S128x1024_S128x128_0_640 rfl _ (fun r e => by unfold_payloads; pointwise; rfl)
  · exact outPiece 4 inb_S128x1024_S128x128_0_512 rfl _ (fun r e => by unfold_payloads; pointwise; rfl)
  · exact outPiece 3 inb_S128x1024_S128x128_0_384 rfl _ (fun r e => by unfold_payloads; pointwise; rfl)
  · exact outPiece 2 inb_S128x1024_S128x128_0_256 rfl _ (fun r e => by unfold_payloads; pointwise; rfl)
  · exact outPiece 1 inb_S128x1024_S128x128_0_128 rfl _ (fun r e => by unfold_payloads; pointwise; rfl)
  · exact outPiece 0 inb_S128x1024_S128x128_0_0 rfl _ (fun r e => by unfold_payloads; pointwise; simp only [outG, stG, Stage.given, Stage.left, Stage.next, Stage.turned, Stage.rot, Stage.mix, Stage.score, Stage.rms, Stage.lanes, col_zero, sq0, sq1, sq2]; rfl)

set_option maxHeartbeats 2000000 in
/-- A later chunk leaves the state `stG`. -/
theorem state_later (hc0 : ¬cond0_0 i) : sout0_B_0 c i arg2 harg2 arg3 harg3 arg4 harg4 arg5 harg5 arg6 harg6 arg7 harg7 arg8 harg8 arg9 harg9 arg10 harg10 arg11 harg11 arg12 harg12 hc0 x0 x1 x2 x3 x4 x5 xs0 xs1 xs2 xs3 = stG x1 x2 x4 x5 xs0 xs3 := by
  funext y
  frame_open
  simp (disch := decide) only [↓ View.readCov_skip, ↓ View.readCov_cons_toLoadRect, ↓ View.readCov_fill]
  frame_out
  refine View.canon_apply_of_pieces (Val := Elt Ideal) (stG x1 x2 x4 x5 xs0 xs3) _ (View.PiecesOf.mem ?_) y
    (View.cover_of_tiledL _ ![1, 128, 128] (by sl_kernel_rfl) y)
  refine ⟨?_, ?_, ?_, ?_, ?_, ?_, ?_, ?_, trivial⟩
  · exact squarePiece 7 inb_S8x128x128_S1x128x128_7_0_0 rfl _ (fun r e => by unfold_payloads; pointwise; rfl)
  · exact squarePiece 6 inb_S8x128x128_S1x128x128_6_0_0 rfl _ (fun r e => by unfold_payloads; pointwise; rfl)
  · exact squarePiece 5 inb_S8x128x128_S1x128x128_5_0_0 rfl _ (fun r e => by unfold_payloads; pointwise; rfl)
  · exact squarePiece 4 inb_S8x128x128_S1x128x128_4_0_0 rfl _ (fun r e => by unfold_payloads; pointwise; rfl)
  · exact squarePiece 3 inb_S8x128x128_S1x128x128_3_0_0 rfl _ (fun r e => by unfold_payloads; pointwise; rfl)
  · exact squarePiece 2 inb_S8x128x128_S1x128x128_2_0_0 rfl _ (fun r e => by unfold_payloads; pointwise; rfl)
  · exact squarePiece 1 inb_S8x128x128_S1x128x128_1_0_0 rfl _ (fun r e => by unfold_payloads; pointwise; rfl)
  · exact squarePiece 0 inb_S8x128x128_S1x128x128_0_0_0 rfl _ (fun r e => by unfold_payloads; pointwise; simp only [outG, stG, Stage.given, Stage.left, Stage.next, Stage.turned, Stage.rot, Stage.mix, Stage.score, Stage.rms, Stage.lanes, col_zero, sq0, sq1, sq2]; rfl)

set_option maxHeartbeats 2000000 in
/-- The first chunk gives out what a later one would from a zero state and the masks and decays it stores. -/
theorem out_first (hc0 : cond0_0 i) (i' : grid0.Coords) (hc1 : ¬cond0_0 i') :
    out0_A_6 c i arg2 harg2 arg3 harg3 arg4 harg4 arg5 harg5 arg6 harg6 arg7 harg7 arg8 harg8 arg9 harg9 arg10 harg10 arg11 harg11 arg12 harg12 hc0 x0 x1 x2 x3 x4 x5 = outG x0 x1 x2 x3 x4 x5 zeroG maskG qdecG := by
  refine Eq.trans ?_ (out_later c i' arg2 harg2 arg3 harg3 arg4 harg4 arg5 harg5 arg6 harg6 arg7 harg7 arg8 harg8 arg9 harg9 arg10 harg10 arg11 harg11 arg12 harg12 x0 x1 x2 x3 x4 x5 zeroG maskG qdecG kdecG hc1)
  obtain ⟨m0, m1, m2, m3, m4, m5, m6, m7⟩ := stored_masks
  obtain ⟨q0, q1, q2, q3, q4, q5, q6, q7⟩ := stored_qdecs
  frame_open
  simp (disch := decide) only [↓ View.readCov_skip, ↓ View.readCov_cons_toLoadRect, ↓ View.readCov_fill]
  frame_out
  simp only [m0, m1, m2, m3, m4, m5, m6, m7, q0, q1, q2, q3, q4, q5, q6, q7, stored_zero]

set_option maxHeartbeats 2000000 in
/-- The first chunk leaves the state `stG` of a zero state. -/
theorem state_first (hc0 : cond0_0 i) : sout0_A_0 c i arg2 harg2 arg3 harg3 arg4 harg4 arg5 harg5 arg6 harg6 arg7 harg7 arg8 harg8 arg9 harg9 arg10 harg10 arg11 harg11 arg12 harg12 hc0 x0 x1 x2 x3 x4 x5 = stG x1 x2 x4 x5 zeroG kdecG := by
  funext y
  obtain ⟨k0, k1, k2, k3, k4, k5, k6, k7⟩ := stored_kdecs
  frame_open
  simp (disch := decide) only [↓ View.readCov_skip, ↓ View.readCov_cons_toLoadRect, ↓ View.readCov_fill]
  frame_out
  simp only [k0, k1, k2, k3, k4, k5, k6, k7, stored_zero]
  refine View.canon_append_of_piecesOf (Val := Elt Ideal) (stG x1 x2 x4 x5 zeroG kdecG) [_] [_, _, _, _, _, _, _, _] ?_ y
    (View.cover_of_tiledL _ ![1, 128, 128] (by sl_kernel_rfl) y)
  generalize zeroG = xs0
  generalize kdecG = xs3
  refine ⟨?_, ?_, ?_, ?_, ?_, ?_, ?_, ?_, trivial⟩
  · exact squarePiece 7 inb_S8x128x128_S1x128x128_7_0_0 rfl _ (fun r e => by unfold_payloads; pointwise; rfl)
  · exact squarePiece 6 inb_S8x128x128_S1x128x128_6_0_0 rfl _ (fun r e => by unfold_payloads; pointwise; rfl)
  · exact squarePiece 5 inb_S8x128x128_S1x128x128_5_0_0 rfl _ (fun r e => by unfold_payloads; pointwise; rfl)
  · exact squarePiece 4 inb_S8x128x128_S1x128x128_4_0_0 rfl _ (fun r e => by unfold_payloads; pointwise; rfl)
  · exact squarePiece 3 inb_S8x128x128_S1x128x128_3_0_0 rfl _ (fun r e => by unfold_payloads; pointwise; rfl)
  · exact squarePiece 2 inb_S8x128x128_S1x128x128_2_0_0 rfl _ (fun r e => by unfold_payloads; pointwise; rfl)
  · exact squarePiece 1 inb_S8x128x128_S1x128x128_1_0_0 rfl _ (fun r e => by unfold_payloads; pointwise; rfl)
  · exact squarePiece 0 inb_S8x128x128_S1x128x128_0_0_0 rfl _ (fun r e => by unfold_payloads; pointwise; simp only [outG, stG, Stage.given, Stage.left, Stage.next, Stage.turned, Stage.rot, Stage.mix, Stage.score, Stage.rms, Stage.lanes, col_zero, sq0, sq1, sq2]; rfl)

set_option maxHeartbeats 2000000 in
/-- The first chunk leaves the masks `maskG`. -/
theorem mask_first (hc0 : cond0_0 i) : sout0_A_1 c i arg2 harg2 arg3 harg3 arg4 harg4 arg5 harg5 arg6 harg6 arg7 harg7 arg8 harg8 arg9 harg9 arg10 harg10 arg11 harg11 arg12 harg12 hc0 x0 x1 x2 x3 x4 x5 = maskG := by
  funext y
  obtain ⟨k0, k1, k2, k3, k4, k5, k6, k7⟩ := stored_masks
  frame_open
  simp (disch := decide) only [↓ View.readCov_skip, ↓ View.readCov_cons_toLoadRect, ↓ View.readCov_fill]
  frame_out
  refine View.canon_apply_of_pieces (Val := Elt Ideal) maskG _ (View.PiecesOf.mem ?_) y
    (View.cover_of_tiledL _ ![1, 128, 128] (by sl_kernel_rfl) y)
  refine ⟨?_, ?_, ?_, ?_, ?_, ?_, ?_, ?_, trivial⟩
  · exact fun x => congrFun k7 x
  · exact fun x => congrFun k6 x
  · exact fun x => congrFun k5 x
  · exact fun x => congrFun k4 x
  · exact fun x => congrFun k3 x
  · exact fun x => congrFun k2 x
  · exact fun x => congrFun k1 x
  · exact fun x => congrFun k0 x

set_option maxHeartbeats 2000000 in
/-- The first chunk leaves the query decays `qdecG`. -/
theorem qdec_first (hc0 : cond0_0 i) : sout0_A_2 c i arg2 harg2 arg3 harg3 arg4 harg4 arg5 harg5 arg6 harg6 arg7 harg7 arg8 harg8 arg9 harg9 arg10 harg10 arg11 harg11 arg12 harg12 hc0 x0 x1 x2 x3 x4 x5 = qdecG := by
  funext y
  obtain ⟨k0, k1, k2, k3, k4, k5, k6, k7⟩ := stored_qdecs
  frame_open
  simp (disch := decide) only [↓ View.readCov_skip, ↓ View.readCov_cons_toLoadRect, ↓ View.readCov_fill]
  frame_out
  refine View.canon_apply_of_pieces (Val := Elt Ideal) qdecG _ (View.PiecesOf.mem ?_) y
    (View.cover_of_tiledL _ ![1, 128, 128] (by sl_kernel_rfl) y)
  refine ⟨?_, ?_, ?_, ?_, ?_, ?_, ?_, ?_, trivial⟩
  · exact fun x => congrFun k7 x
  · exact fun x => congrFun k6 x
  · exact fun x => congrFun k5 x
  · exact fun x => congrFun k4 x
  · exact fun x => congrFun k3 x
  · exact fun x => congrFun k2 x
  · exact fun x => congrFun k1 x
  · exact fun x => congrFun k0 x

set_option maxHeartbeats 2000000 in
/-- The first chunk leaves the key decays `kdecG`. -/
theorem kdec_first (hc0 : cond0_0 i) : sout0_A_3 c i arg2 harg2 arg3 harg3 arg4 harg4 arg5 harg5 arg6 harg6 arg7 harg7 arg8 harg8 arg9 harg9 arg10 harg10 arg11 harg11 arg12 harg12 hc0 x0 x1 x2 x3 x4 x5 = kdecG := by
  funext y
  obtain ⟨k0, k1, k2, k3, k4, k5, k6, k7⟩ := stored_kdecs
  frame_open
  simp (disch := decide) only [↓ View.readCov_skip, ↓ View.readCov_cons_toLoadRect, ↓ View.readCov_fill]
  frame_out
  refine View.canon_apply_of_pieces (Val := Elt Ideal) kdecG _ (View.PiecesOf.mem ?_) y
    (View.cover_of_tiledL _ ![1, 128, 128] (by sl_kernel_rfl) y)
  refine ⟨?_, ?_, ?_, ?_, ?_, ?_, ?_, ?_, trivial⟩
  · exact fun x => congrFun k7 x
  · exact fun x => congrFun k6 x
  · exact fun x => congrFun k5 x
  · exact fun x => congrFun k4 x
  · exact fun x => congrFun k3 x
  · exact fun x => congrFun k2 x
  · exact fun x => congrFun k1 x
  · exact fun x => congrFun k0 x

end Cert.Proof.Body

end
-- ==== Proof.Const.lean ====
/-
  The decays: the numbers the kernel writes for them, under their names, against the reference's own computation of them
  from the head's number.
-/
module
public import proofs.«01_k».proof.Proof.Body
public import Idealize.ShloMosaic.Lib.DynamicIndex
@[expose] public section
noncomputable section
open Idealize.ShloMosaic Cert.KernelIdeal
namespace Cert.Proof.Const

/-- The logarithm of head `h`'s decay per row, as the reference computes it: `log (1 - 2 ^ (-5 - h))`. -/
def logR (h : Fin 8) : EReal :=
  Ideal.log (1 - Ideal.pow (Ideal.ofBits FTy.f32 1073741824#32)
    (Ideal.ofBits FTy.f32 3231711232#32 - FloatOps.sitofp (F := Ideal) FTy.f32 (BitVec.ofNat 32 h.val)))

/-- The decay of a whole chunk. -/
def decR (h : Fin 8) : EReal := Ideal.exp (Ideal.ofBits FTy.f32 1124073472#32 * logR h)

/-- The decay mask. -/
def maskR (h : Fin 8) (i j : Fin 128) : EReal :=
  if 0 ≤ FloatOps.sitofp (F := Ideal) FTy.f32 (BitVec.ofNat 32 i.val) - FloatOps.sitofp (F := Ideal) FTy.f32 (BitVec.ofNat 32 j.val) then
    Ideal.exp
      ((if 0 ≤ FloatOps.sitofp (F := Ideal) FTy.f32 (BitVec.ofNat 32 i.val) - FloatOps.sitofp (F := Ideal) FTy.f32 (BitVec.ofNat 32 j.val) then
          FloatOps.sitofp (F := Ideal) FTy.f32 (BitVec.ofNat 32 i.val) - FloatOps.sitofp (F := Ideal) FTy.f32 (BitVec.ofNat 32 j.val)
        else 0) * logR h)
  else 0

/-- The decay of the queries. -/
def qdecR (h : Fin 8) (i : Fin 128) : EReal := Ideal.exp ((FloatOps.sitofp (F := Ideal) FTy.f32 (BitVec.ofNat 32 i.val) + 1) * logR h)

/-- The decay of the keys. -/
def kdecR (h : Fin 8) (j : Fin 128) : EReal :=
  Ideal.exp ((Ideal.ofBits FTy.f32 1123942400#32 - FloatOps.sitofp (F := Ideal) FTy.f32 (BitVec.ofNat 32 j.val)) * logR h)

theorem two : Ideal.ofBits FTy.f32 1073741824#32 = ((2 : ℝ) : EReal) := by
  simp [Ideal.ofBits, Ideal.ieee, -EReal.coe_mul]
  try norm_num
theorem minus_five : Ideal.ofBits FTy.f32 3231711232#32 = ((-5 : ℝ) : EReal) := by
  simp [Ideal.ofBits, Ideal.ieee, -EReal.coe_mul, -EReal.coe_neg]
  norm_num
theorem chunk : Ideal.ofBits FTy.f32 1124073472#32 = ((128 : ℝ) : EReal) := by
  simp [Ideal.ofBits, Ideal.ieee, -EReal.coe_mul]
  norm_num

/-- A small whole number as a float. -/
theorem sitofp_small (n : ℕ) (hn : n < 2 ^ 31) : FloatOps.sitofp (F := Ideal) FTy.f32 (BitVec.ofNat 32 n) = ((n : ℝ) : EReal) := by
  show (((BitVec.ofNat 32 n).toInt : ℝ) : EReal) = _
  rw [toInt_ofNat_of_lt hn]
  simp

/-- A decay's logarithm as a real number. -/
theorem logR_real (h : Fin 8) : logR h = ((Real.log (1 - (1 / 2) ^ (5 + h.val)) : ℝ) : EReal) := by
  unfold logR
  rw [two, minus_five, sitofp_small _ (by omega), ← EReal.coe_sub, Ideal.pow_coe_coe]
  have e : Real.rpow 2 (-5 - (h.val : ℝ)) = (1 / 2) ^ (5 + h.val) := by
    show (2 : ℝ) ^ (-5 - (h.val : ℝ)) = _
    rw [show (-5 - (h.val : ℝ)) = -(((5 + h.val : ℕ)) : ℝ) by push_cast; ring, Real.rpow_neg (by norm_num), Real.rpow_natCast]
    simp
  rw [e, ← EReal.coe_one, ← EReal.coe_sub, Ideal.log_coe, if_neg]
  have : ((1 : ℝ) / 2) ^ (5 + h.val) ≤ (1 / 2) ^ 5 := pow_le_pow_of_le_one (by norm_num) (by norm_num) (by omega)
  norm_num at this ⊢
  linarith

/-- A chunk's decay as a real number. -/
theorem decR_real (h : Fin 8) : decR h = (((1 - (1 / 2) ^ (5 + h.val)) ^ 128 : ℝ) : EReal) := by
  unfold decR
  rw [chunk, logR_real, ← EReal.coe_mul, Ideal.exp_coe]
  congr 1
  have : ((1 : ℝ) / 2) ^ (5 + h.val) ≤ (1 / 2) ^ 5 := pow_le_pow_of_le_one (by norm_num) (by norm_num) (by omega)
  have hp : (0 : ℝ) < 1 - (1 / 2) ^ (5 + h.val) := by norm_num at this ⊢; linarith
  rw [mul_comm, Real.exp_mul, Real.exp_log hp]
  exact Real.rpow_natCast _ 128

theorem logK_eq (h : Fin 8) : Body.logK h = logR h := by
  rw [logR_real]
  fin_cases h <;> refine (IdealRules.named_const.ideal_named_scalar _ _ _ _ rfl).trans ?_ <;> norm_num

theorem decK_eq (h : Fin 8) : Body.decK h = decR h := by
  rw [decR_real]
  fin_cases h <;> refine (IdealRules.named_const.ideal_named_scalar _ _ _ _ rfl).trans ?_ <;> norm_num

theorem qdec_eq : Body.qdecK = qdecR := by
  funext h i
  unfold Body.qdecK qdecR
  rw [logK_eq]

theorem kdec_eq : Body.kdecK = kdecR := by
  funext h i
  unfold Body.kdecK kdecR
  rw [logK_eq]

/-- The kernel's comparison of two rows. -/
theorem rows_cmp (i j : Fin 128) : IntOp.cmpi .sge (BitVec.ofNat 32 i.val) (BitVec.ofNat 32 j.val) = if j.val ≤ i.val then 1#1 else 0#1 := by
  have hi := toInt_ofNat_of_lt (show i.val < 2 ^ 31 by omega)
  have hj := toInt_ofNat_of_lt (show j.val < 2 ^ 31 by omega)
  by_cases h : j.val ≤ i.val <;> simp [IntOp.cmpi, BitVec.sle, hi, hj, h]

/-- A difference of two rows. -/
theorem rows_sub (i j : Fin 128) (h : j.val ≤ i.val) :
    IntOp.subi (BitVec.ofNat 32 i.val) (BitVec.ofNat 32 j.val) = BitVec.ofNat 32 (i.val - j.val) := by
  apply BitVec.eq_of_toNat_eq
  simp [IntOp.subi]
  omega

theorem mask_eq : Body.maskK = maskR := by
  funext h i j
  unfold Body.maskK maskR
  rw [logK_eq, rows_cmp, sitofp_small i.val (by omega), sitofp_small j.val (by omega), ← EReal.coe_sub]
  have hi := i.isLt
  have hj := j.isLt
  by_cases hij : j.val ≤ i.val
  · have hr : (0 : EReal) ≤ ((i.val - j.val : ℝ) : EReal) := by
      have : (j.val : ℝ) ≤ i.val := by exact_mod_cast hij
      exact EReal.coe_nonneg.mpr (by linarith)
    rw [if_pos hij, if_pos hr, if_pos hr, rows_sub i j hij]
    show Ideal.exp (FloatOps.sitofp (F := Ideal) FTy.f32 (BitVec.ofNat 32 (i.val - j.val)) * _) = _
    rw [sitofp_small _ (by omega), Nat.cast_sub hij]
  · have hr : ¬(0 : EReal) ≤ ((i.val - j.val : ℝ) : EReal) := by
      have : (i.val : ℝ) < j.val := by exact_mod_cast not_le.mp hij
      exact fun h => absurd (EReal.coe_nonneg.mp h) (by linarith)
    rw [if_neg hij, if_neg hr]
    rfl

end Cert.Proof.Const
end
-- ==== Proof.Before.lean ====
/-
  The reference before its loop over the chunks: the rotated queries and keys, the values, the decays and the mask, laid
  out chunk by chunk, in the model's terms.
-/
module
public import proofs.«01_k».proof.Proof.Model
public import proofs.«01_k».proof.Proof.Const
public import proofs.«01_k».proof.Proof.Gen.ReferenceIdeal.Run
public import Idealize.ShloMosaic.Lib.Claim
public import Idealize.ShloMosaic.Lib.StableHlo.ReadAt
@[expose] public section
noncomputable section
open Idealize.ShloMosaic Idealize.ShloMosaic.TcCoe Idealize.SL.Sem Idealize.ShloMosaic.StableHlo Cert.ReferenceIdeal Cert.ReferenceIdeal.Gen
open Cert.Proof.Model Cert.ReferenceIdeal.Value Cert.Proof.Const
open Cert.Proof.Stage (col)
namespace Cert.Proof.Before

/-- Where row `s` of a sequence stands among the padded rows. -/
def behind (s : Fin 8208) : Fin 8320 := ⟨s.val + 112, by omega⟩

theorem lane_behind (x : Arg) (b : Fin 4) (h : Fin 8) (s : Fin 8208) (d : Fin 128) : lane x b h (behind s) d = x (ix3 b s (col h d)) := by
  unfold lane padded
  rw [dif_neg (show ¬(behind s).val < 112 from fun h => absurd h (by show ¬ s.val + 112 < 112; omega))]
  exact congrArg (fun r => x (ix3 b r (col h d))) (Fin.ext (show s.val + 112 - 112 = s.val by omega))

/-- The padded rows' positions are counted from the sequence's first row. -/
theorem angle_behind (s : Fin 8208) (d : Fin 64) : angle (behind s) d =
    FloatOps.sitofp (F := Ideal) FTy.f32 (BitVec.ofNat 32 s.val) * Ideal.pow (Ideal.ofBits FTy.f32 1176256512#32)
      (Ideal.div (-FloatOps.sitofp (F := Ideal) FTy.f32 (BitVec.ofNat 32 d.val)) (Ideal.ofBits FTy.f32 1115684864#32)) := by
  have e : IntOp.subi (BitVec.ofNat 32 (s.val + 112)) 112#32 = BitVec.ofNat 32 s.val := by
    apply BitVec.eq_of_toNat_eq
    simp [IntOp.subi]
    omega
  unfold angle
  exact congrArg (fun v => FloatOps.sitofp (F := Ideal) FTy.f32 v * _) e

theorem col_of (h : Fin 8) (d : Fin 128) (k : ℕ) (hk : k < 1024) (e : k = 128 * h.val + d.val) : (⟨k, hk⟩ : Fin 1024) = col h d := Fin.ext e

/-- The rotation with its two halves written out, as the reference writes it. -/
theorem turn_halves (x : Arg) (b : Fin 4) (h : Fin 8) (s : Fin 8208) (d : Fin 128) : turn x b h (behind s) d =
    if hd : d.val < 64 then x (ix3 b s ⟨h.val * 128 + d.val, by omega⟩) * Ideal.cos (angle (behind s) ⟨d.val, hd⟩)
        - x (ix3 b s ⟨h.val * 128 + (64 + d.val), by omega⟩) * Ideal.sin (angle (behind s) ⟨d.val, hd⟩)
    else x (ix3 b s ⟨h.val * 128 + (d.val - 64), by omega⟩) * Ideal.sin (angle (behind s) ⟨d.val - 64, by omega⟩)
        + x (ix3 b s ⟨h.val * 128 + (64 + (d.val - 64)), by omega⟩) * Ideal.cos (angle (behind s) ⟨d.val - 64, by omega⟩) := by
  unfold turn Stage.rot cosT sinT
  rw [lane_behind, lane_behind]
  by_cases hd : d.val < 64
  · rw [dif_pos hd, dif_pos hd, dif_pos hd, col_of h d _ _ (by omega),
      col_of h (Stage.half d) (h.val * 128 + (64 + d.val)) _ (by show _ = 128 * h.val + (d.val + 128 - 64) % 128; omega), mul_neg, sub_eq_add_neg]
  · rw [dif_neg hd, dif_neg hd, dif_neg hd, col_of h d (h.val * 128 + (64 + (d.val - 64))) _ (by omega),
      col_of h (Stage.half d) (h.val * 128 + (d.val - 64)) _ (by show _ = 128 * h.val + (d.val + 128 - 64) % 128; omega), add_comm]

theorem rotated_q (V : Valuation τ sig (Elt Ideal)) (b : Fin 4) (s : Fin 8208) (h : Fin 8) (d : Fin 128) :
    (after hostOps0 V (Proc.devRef .tc main_v32) : Vec Ideal S4x8208x8x128 .f32) (ix4 b s h d) =
      turn (V (Proc.devRef .tc main_arg0)) b h (behind s) d := by
  rw [turn_halves]
  simp only [angle_behind]
  after_results
  pointwise

theorem rotated_k (V : Valuation τ sig (Elt Ideal)) (b : Fin 4) (s : Fin 8208) (h : Fin 8) (d : Fin 128) :
    (after hostOps0 V (Proc.devRef .tc main_v63) : Vec Ideal S4x8208x8x128 .f32) (ix4 b s h d) =
      key (V (Proc.devRef .tc main_arg1)) b h (behind s) d := by
  unfold key Stage.kscale
  rw [turn_halves]
  simp only [angle_behind]
  after_results
  pointwise

theorem rotated_v (V : Valuation τ sig (Elt Ideal)) (b : Fin 4) (s : Fin 8208) (h : Fin 8) (d : Fin 128) :
    (after hostOps0 V (Proc.devRef .tc main_v2) : Vec Ideal S4x8208x8x128 .f32) (ix4 b s h d) =
      lane (V (Proc.devRef .tc main_arg2)) b h (behind s) d := by
  rw [lane_behind, ← col_of h d (h.val * 128 + d.val) (by omega) (by omega)]
  after_results
  pointwise

/-- The stretches that lay the sequences out. -/
abbrev layout : List (List (HloOp τ sig (Elt Ideal))) := [hostOps0_1, hostOps0_2, hostOps0_3, hostOps0_4, hostOps0_5, hostOps0_6, hostOps0_7, hostOps0_8, hostOps0_9]

theorem zero_word : FloatOps.sitofp (F := Ideal) FTy.f32 0#32 = 0 := by
  refine (sitofp_small 0 (by omega)).trans ?_
  simp

/-- A sequence of zero rows followed by what a stretch of the model gives behind them. -/
theorem behind_or (f : Fin 8320 → EReal) (g : Fin 8208 → EReal) (hz : ∀ p : Fin 8320, p.val < 112 → f p = 0) (hg : ∀ s, g s = f (behind s))
    (z : EReal) (hz0 : z = 0) (n : Fin 65) (i : Fin 128) : (if h : 112 ≤ n.val * 128 + i.val ∧ n.val * 128 + i.val - 112 < 8208 then g ⟨n.val * 128 + i.val - 112, h.2⟩ else z) = f (pos n i) := by
  by_cases h : 112 ≤ n.val * 128 + i.val
  · rw [dif_pos ⟨h, by omega⟩, hg]
    exact congrArg f (Fin.ext (show n.val * 128 + i.val - 112 + 112 = 128 * n.val + i.val by omega))
  · rw [dif_neg fun h' => h h'.1, hz, hz0]
    show 128 * n.val + i.val < 112
    omega

theorem lane_pad (x : Arg) (b : Fin 4) (h : Fin 8) (d : Fin 128) (p : Fin 8320) (hp : p.val < 112) : lane x b h p d = 0 := by
  unfold lane padded; exact dif_pos hp

theorem turn_pad (x : Arg) (b : Fin 4) (h : Fin 8) (d : Fin 128) (p : Fin 8320) (hp : p.val < 112) : turn x b h p d = 0 := by
  unfold turn Stage.rot
  rw [lane_pad x b h d p hp, lane_pad x b h _ p hp, zero_mul, zero_mul, add_zero]

theorem key_pad (x : Arg) (b : Fin 4) (h : Fin 8) (d : Fin 128) (p : Fin 8320) (hp : p.val < 112) : key x b h p d = 0 := by
  unfold key
  rw [turn_pad x b h d p hp, zero_mul]

/-- The padding value of the queries is written before they are laid out. -/
theorem zero_c (V : Valuation τ sig (Elt Ideal)) (x : S_.Idx) : (after hostOps0 V (Proc.devRef .tc main_c) : S_.Idx → BitVec 32) x = 0#32 := by
  after_results
  rfl

variable (V : Valuation τ sig (Elt Ideal))

theorem laid_q (b : Fin 4) (n : Fin 65) (i : Fin 128) (h : Fin 8) (d : Fin 128) :
    (afterL layout (after hostOps0 V) (Proc.devRef .tc main_v65) : Vec Ideal S4x65x128x8x128 .f32) (ix5 b n i h d) =
      turn (V (Proc.devRef .tc main_arg0)) b h (pos n i) d := by
  have r := fun s => rotated_q V b s h d
  have z := zero_c V
  generalize after hostOps0 V = W at r z ⊢
  simp only [afterL_cons, afterL_nil]
  after_reads_at
  exact behind_or (fun p => turn (V (Proc.devRef .tc main_arg0)) b h p d) _ (turn_pad _ b h d) r _
    ((congrArg (FloatOps.sitofp (F := Ideal) FTy.f32) (z _)).trans zero_word) n i

theorem laid_k (b : Fin 4) (n : Fin 65) (i : Fin 128) (h : Fin 8) (d : Fin 128) :
    (afterL layout (after hostOps0 V) (Proc.devRef .tc main_v67) : Vec Ideal S4x65x128x8x128 .f32) (ix5 b n i h d) =
      key (V (Proc.devRef .tc main_arg1)) b h (pos n i) d := by
  have r := fun s => rotated_k V b s h d
  generalize after hostOps0 V = W at r ⊢
  simp only [afterL_cons, afterL_nil]
  after_reads_at
  exact behind_or (fun p => key (V (Proc.devRef .tc main_arg1)) b h p d) _ (key_pad _ b h d) r _ zero_word n i

theorem laid_v (b : Fin 4) (n : Fin 65) (i : Fin 128) (h : Fin 8) (d : Fin 128) :
    (afterL layout (after hostOps0 V) (Proc.devRef .tc main_v69) : Vec Ideal S4x65x128x8x128 .f32) (ix5 b n i h d) =
      lane (V (Proc.devRef .tc main_arg2)) b h (pos n i) d := by
  have r := fun s => rotated_v V b s h d
  generalize after hostOps0 V = W at r ⊢
  simp only [afterL_cons, afterL_nil]
  after_reads_at
  exact behind_or (fun p => lane (V (Proc.devRef .tc main_arg2)) b h p d) _ (lane_pad _ b h d) r _ zero_word n i

theorem mask_at (h : Fin 8) (i j : Fin 128) :
    (afterL layout (after hostOps0 V) (Proc.devRef .tc main_v94) : Vec Ideal S8x128x128 .f32) (ix3 h i j) = maskR h i j := by
  generalize after hostOps0 V = W
  simp only [afterL_cons, afterL_nil]
  after_reads_at
  simp only [id_eq]
  pointwise [maskR, logR]

theorem log_at (h : Fin 8) :
    (afterL layout (after hostOps0 V) (Proc.devRef .tc main_v77) : Vec Ideal S8 .f32) (ix1 h) = logR h := by
  generalize after hostOps0 V = W
  simp only [afterL_cons, afterL_nil]
  after_reads_at
  rfl

theorem row_at (i : Fin 128) :
    (afterL layout (after hostOps0 V) (Proc.devRef .tc main_v78) : Vec Ideal S128 .f32) (ix1 i) = FloatOps.sitofp (F := Ideal) FTy.f32 (BitVec.ofNat 32 i.val) := by
  generalize after hostOps0 V = W
  simp only [afterL_cons, afterL_nil]
  after_reads_at

theorem gates_at : afterL layout (after hostOps0 V) (Proc.devRef .tc main_arg3) = V (Proc.devRef .tc main_arg3) := by
  simp only [afterL_cons, afterL_nil]
  after_reads_simp

end Cert.Proof.Before
end
-- ==== Proof.Loop.lean ====
/-
  The reference's loop over the chunks: before its trip `k` the state is the model's state of chunk `k`, and the states of
  the chunks before `k` are stacked.
-/
module
public import proofs.«01_k».proof.Proof.Before
@[expose] public section
noncomputable section
open Idealize.ShloMosaic Idealize.ShloMosaic.TcCoe Idealize.SL.Sem Idealize.ShloMosaic.StableHlo Cert.ReferenceIdeal Cert.ReferenceIdeal.Gen
open Cert.Proof.Model Cert.ReferenceIdeal.Value Cert.Proof.Const
open Cert.Proof.Stage (col)
namespace Cert.Proof.Loop

variable (V : Valuation τ sig (Elt Ideal))

/-- What a chunk's own rows give its rows, over the laid out arrays. -/
def ownVec (q k v : Vec Ideal S4x65x128x8x128 .f32) (mask : Vec Ideal S8x128x128 .f32) : Vec Ideal S4x65x128x8x128 .f32 :=
  transpose S4x65x128x8x128 [0, 1, 4, 2, 3]
    (Host.dotGeneral (F := Ideal) (φ₁ := .f32) (φ₂ := .f32) dot_S4x65x128x8x128_S4x65x8x128x128_S4x65x8x128x128_2_4_4_3_013_012 none v
      (mulf (Host.dotGeneral (F := Ideal) (φ₁ := .f32) (φ₂ := .f32) dot_S4x65x128x8x128_S4x65x128x8x128_S4x65x8x128x128_4_4_2_2_013_013 none q k)
        (broadcastInDim S4x65x8x128x128 ![0, 1, 2, 3, 4] bcast_S1x1x8x128x128_S4x65x8x128x128_0_1_2_3_4
          (broadcastInDim S1x1x8x128x128 ![2, 3, 4] bcast_S8x128x128_S1x1x8x128x128_2_3_4 mask))))
    transposes_S4x65x8x128x128_S4x65x128x8x128_0_1_4_2_3

/-- The laid out sum the programme stacks is `ownVec`. -/
theorem own_vec (W : Valuation τ sig (Elt Ideal)) : after hostOps0_10 W (Proc.devRef .tc main_v100) =
    ownVec (W (Proc.devRef .tc main_v65)) (W (Proc.devRef .tc main_v67)) (W (Proc.devRef .tc main_v69)) (W (Proc.devRef .tc main_v94)) := by
  unfold ownVec
  after_results

/-- `ownVec` at an index. -/
theorem ownVec_at (q k v : Vec Ideal S4x65x128x8x128 .f32) (mask : Vec Ideal S8x128x128 .f32) (b : Fin 4) (n : Fin 65) (i : Fin 128) (h : Fin 8) (e : Fin 128) :
    ownVec q k v mask (ix5 b n i h e) =
      ∑ j : Fin 128, v (ix5 b n j h e) * ((∑ d : Fin 128, q (ix5 b n i h d) * k (ix5 b n j h d)) * mask (ix3 h i j)) := by
  pointwise [ownVec]

/-- What a chunk's rows give the state, over the laid out arrays. -/
def localVec (k v : Vec Ideal S4x65x128x8x128 .f32) (lg : Vec Ideal S8 .f32) (pos : Vec Ideal S128 .f32) : Vec Ideal S65x4x8x128x128 .f32 :=
  transpose S65x4x8x128x128 [1, 0, 2, 3, 4]
    (Host.dotGeneral (F := Ideal) (φ₁ := .f32) (φ₂ := .f32) dot_S4x65x128x8x128_S4x65x128x8x128_S4x65x8x128x128_2_2_4_4_013_013 none
      (mulf k
        (broadcastInDim S4x65x128x8x128 ![0, 1, 2, 3, 4] bcast_S1x1x128x8x1_S4x65x128x8x128_0_1_2_3_4
          (broadcastInDim S1x1x128x8x1 ![2, 3] bcast_S128x8_S1x1x128x8x1_2_3
            (transpose S128x8 [1, 0]
              (Host.exp
                (mulf
                  (broadcastInDim S8x128 ![0, 1] bcast_S1x128_S8x128_0_1
                    (broadcastInDim S1x128 ![1] bcast_S128_S1x128_1
                      (subf (broadcastInDim S128 ![] bcast_S_S128 (constant (F := Ideal) S_ FTy.f32 1123942400#32)) pos)))
                  (broadcastInDim S8x128 ![0, 1] bcast_S8x1_S8x128_0_1 (broadcastInDim S8x1 ![0] bcast_S8_S8x1_0 lg))))
              transposes_S8x128_S128x8_1_0))))
      v)
    transposes_S4x65x8x128x128_S65x4x8x128x128_1_0_2_3_4

/-- What the loop adds trip by trip is `localVec`. -/
theorem local_vec (W : Valuation τ sig (Elt Ideal)) : after hostOps0_10 W (Proc.devRef .tc main_v124_0) =
    localVec (W (Proc.devRef .tc main_v67)) (W (Proc.devRef .tc main_v69)) (W (Proc.devRef .tc main_v77)) (W (Proc.devRef .tc main_v78)) := by
  unfold localVec
  after_results
  simp only [id_eq]

/-- `localVec` at an index. -/
theorem localVec_at (k v : Vec Ideal S4x65x128x8x128 .f32) (lg : Vec Ideal S8 .f32) (pos : Vec Ideal S128 .f32) (b : Fin 4) (n : Fin 65) (h : Fin 8) (d e : Fin 128) :
    localVec k v lg pos (ix5 n b h d e) =
      ∑ j : Fin 128, (k (ix5 b n j h d) * Ideal.exp ((Ideal.ofBits FTy.f32 1123942400#32 - pos (ix1 j)) * lg (ix1 h))) * v (ix5 b n j h e) := by
  pointwise [localVec]

/-- The decays the loop reads. -/
theorem decay_vec (W : Valuation τ sig (Elt Ideal)) : after hostOps0_10 W (Proc.devRef .tc main_v124_1) =
    (transpose S65x4x8 [1, 0, 2] (broadcastInDim S4x65x8 ![2] bcast_S8_S4x65x8_2
      (Host.exp (mulf (broadcastInDim S8 ![] bcast_S_S8 (constant (F := Ideal) S_ FTy.f32 1124073472#32)) (W (Proc.devRef .tc main_v77)))))
      transposes_S4x65x8_S65x4x8_1_0_2 : Vec Ideal S65x4x8 .f32) := by
  after_results
  simp only [id_eq]

/-- The state the loop starts from. -/
theorem start_vec (W : Valuation τ sig (Elt Ideal)) : after hostOps0_10 W (Proc.devRef .tc main_v124_3) =
    (broadcastInDim S4x8x128x128 ![] bcast_S_S4x8x128x128 (constant (F := Ideal) S_ FTy.f32 0#32) : Vec Ideal S4x8x128x128 .f32) := by
  after_results
  simp only [id_eq]

variable (V : Valuation τ sig (Elt Ideal))

/-- What the loop starts from. -/
def laid : Valuation τ sig (Elt Ideal) := afterL Before.layout (after hostOps0 V)

/-- What a chunk's own rows give its rows. -/
theorem own_at (b : Fin 4) (n : Fin 65) (i : Fin 128) (h : Fin 8) (e : Fin 128) :
    (after hostOps0_10 (laid V) (Proc.devRef .tc main_v100) : Vec Ideal S4x65x128x8x128 .f32) (ix5 b n i h e) =
      ∑ j : Fin 128, Stage.score (fun i => turn (V (Proc.devRef .tc main_arg0)) b h (pos n i)) (fun j => key (V (Proc.devRef .tc main_arg1)) b h (pos n j))
        (maskR h) i j * lane (V (Proc.devRef .tc main_arg2)) b h (pos n j) e := by
  refine (congrFun (own_vec (laid V)) _).trans ((ownVec_at _ _ _ _ b n i h e).trans (Finset.sum_congr rfl fun j _ => ?_))
  refine (mul_comm (G := EReal) _ _).trans (congrArg₂ (fun x y : EReal => x * y) (congrArg₂ (fun x y : EReal => x * y) ?_ (Before.mask_at V h i j)) (Before.laid_v V b n j h e))
  exact Finset.sum_congr rfl fun d _ => congrArg₂ (fun x y : EReal => x * y) (Before.laid_q V b n i h d) (Before.laid_k V b n j h d)

/-- What a chunk's rows give the state. -/
theorem local_at (b : Fin 4) (n : Fin 65) (h : Fin 8) (d e : Fin 128) :
    (after hostOps0_10 (laid V) (Proc.devRef .tc main_v124_0) : Vec Ideal S65x4x8x128x128 .f32) (ix5 n b h d e) =
      ∑ j : Fin 128, (key (V (Proc.devRef .tc main_arg1)) b h (pos n j) d * kdecR h j) * lane (V (Proc.devRef .tc main_arg2)) b h (pos n j) e := by
  refine (congrFun (local_vec (laid V)) _).trans ((localVec_at _ _ _ _ b n h d e).trans (Finset.sum_congr rfl fun j _ => ?_))
  refine congrArg₂ (fun x y : EReal => x * y) (congrArg₂ (fun x y : EReal => x * y) (Before.laid_k V b n j h d) ?_) (Before.laid_v V b n j h e)
  exact congrArg₂ (fun x y : EReal => Ideal.exp ((Ideal.ofBits FTy.f32 1123942400#32 - x) * y)) (Before.row_at V j) (Before.log_at V h)

/-- The decay of a head, at every trip. -/
theorem decay_at (b : Fin 4) (n : Fin 65) (h : Fin 8) :
    (after hostOps0_10 (laid V) (Proc.devRef .tc main_v124_1) : Vec Ideal S65x4x8 .f32) (ix3 n b h) = decR h := by
  refine (congrFun (decay_vec (laid V)) _).trans ?_
  pointwise
  exact congrArg (fun x : EReal => Ideal.exp (Ideal.ofBits FTy.f32 1124073472#32 * x)) (Before.log_at V h)

/-- The first state is zero. -/
theorem start_at (b : Fin 4) (h : Fin 8) (d e : Fin 128) :
    (after hostOps0_10 (laid V) (Proc.devRef .tc main_v124_3) : Vec Ideal S4x8x128x128 .f32) (ix4 b h d e) = (0 : EReal) := by
  refine (congrFun (start_vec (laid V)) _).trans ?_
  pointwise

/-- Trip `k`'s slice of a stack of states. -/
theorem cut5 (x : Vec Ideal S65x4x8x128x128 .f32) (start : Fin 5 → Int) (k : Fin 65) (h0 : start 0 = k.val) (h1 : start 1 = 0) (h2 : start 2 = 0)
    (h3 : start 3 = 0) (h4 : start 4 = 0) (b : Fin 4) (h : Fin 8) (d e : Fin 128) :
    Host.dynamicSlice S1x4x8x128x128 x start sliceFits_S65x4x8x128x128_S1x4x8x128x128 (ix5 (0 : Fin 1) b h d e) = x (ix5 k b h d e) := by
  rw [Host.dynamicSlice_eq_extractStridedSlice S1x4x8x128x128 x start ![k.val, 0, 0, 0, 0] _ ⟨rfl, by intro a; have := k.isLt; fin_cases a <;> simp [S65x4x8x128x128, S1x4x8x128x128] <;> omega⟩ (by intro a; fin_cases a <;> simp_all)]
  pointwise
/-- Trip `k`'s slice of the decays. -/
theorem cut3 (x : Vec Ideal S65x4x8 .f32) (start : Fin 3 → Int) (k : Fin 65) (h0 : start 0 = k.val) (h1 : start 1 = 0) (h2 : start 2 = 0)
    (b : Fin 4) (h : Fin 8) :
    Host.dynamicSlice S1x4x8 x start sliceFits_S65x4x8_S1x4x8 (ix3 (0 : Fin 1) b h) = x (ix3 k b h) := by
  rw [Host.dynamicSlice_eq_extractStridedSlice S1x4x8 x start ![k.val, 0, 0] _ ⟨rfl, by intro a; have := k.isLt; fin_cases a <;> simp [S65x4x8, S1x4x8] <;> omega⟩ (by intro a; fin_cases a <;> simp_all)]
  pointwise
/-- The state after one trip, of its parts before it. -/
theorem next_vec (st : Vec Ideal S4x8x128x128 .f32) (dec : Vec Ideal S65x4x8 .f32) (lo : Vec Ideal S65x4x8x128x128 .f32) (s3 : Fin 3 → Int) (s5 : Fin 5 → Int)
    (k : Fin 65) (a0 : s3 0 = k.val) (a1 : s3 1 = 0) (a2 : s3 2 = 0) (b0 : s5 0 = k.val) (b1 : s5 1 = 0) (b2 : s5 2 = 0) (b3 : s5 3 = 0) (b4 : s5 4 = 0)
    (b : Fin 4) (h : Fin 8) (d e : Fin 128) :
    (addf (F := Ideal) (φ := .f32) (mulf st (broadcastInDim S4x8x128x128 ![0, 1, 2, 3] bcast_S4x8x1x1_S4x8x128x128_0_1_2_3 (broadcastInDim S4x8x1x1 ![0, 1] bcast_S4x8_S4x8x1x1_0_1
      (shapeCast S4x8 (Host.dynamicSlice S1x4x8 dec s3 sliceFits_S65x4x8_S1x4x8) shapeCasts_S1x4x8_S4x8))))
      (shapeCast S4x8x128x128 (Host.dynamicSlice S1x4x8x128x128 lo s5 sliceFits_S65x4x8x128x128_S1x4x8x128x128) shapeCasts_S1x4x8x128x128_S4x8x128x128) : Vec Ideal S4x8x128x128 .f32) (ix4 b h d e) =
    (st (ix4 b h d e) * dec (ix3 k b h) + lo (ix5 k b h d e) : EReal) := by
  rw [← cut3 dec s3 k a0 a1 a2, ← cut5 lo s5 k b0 b1 b2 b3 b4]
  generalize Host.dynamicSlice S1x4x8 dec s3 sliceFits_S65x4x8_S1x4x8 = u
  generalize Host.dynamicSlice S1x4x8x128x128 lo s5 sliceFits_S65x4x8x128x128_S1x4x8x128x128 = w
  pointwise

/-- A state written at place `k` of the stack. -/
theorem stack_vec (x : Vec Ideal S65x4x8x128x128 .f32) (u : Vec Ideal S4x8x128x128 .f32) (start : Fin 5 → Int) (k : Fin 65) (h0 : start 0 = k.val) (h1 : start 1 = 0) (h2 : start 2 = 0)
    (h3 : start 3 = 0) (h4 : start 4 = 0) (n : Fin 65) (b : Fin 4) (h : Fin 8) (d e : Fin 128) :
    Host.dynamicUpdateSlice x (broadcastInDim S1x4x8x128x128 ![1, 2, 3, 4] bcast_S4x8x128x128_S1x4x8x128x128_1_2_3_4 u) start updateFits_S65x4x8x128x128_S1x4x8x128x128 (ix5 n b h d e) =
      if n = k then u (ix4 b h d e) else x (ix5 n b h d e) := by
  have hk := k.isLt
  have c0 := Host.clampedStart_of_le (s := S65x4x8x128x128) (t := S1x4x8x128x128) rfl start 0 k.val h0 (by show k.val + 1 ≤ 65; omega)
  have c1 := Host.clampedStart_of_le (s := S65x4x8x128x128) (t := S1x4x8x128x128) rfl start 1 0 h1 (by show 0 + 4 ≤ 4; omega)
  have c2 := Host.clampedStart_of_le (s := S65x4x8x128x128) (t := S1x4x8x128x128) rfl start 2 0 h2 (by show 0 + 8 ≤ 8; omega)
  have c3 := Host.clampedStart_of_le (s := S65x4x8x128x128) (t := S1x4x8x128x128) rfl start 3 0 h3 (by show 0 + 128 ≤ 128; omega)
  have c4 := Host.clampedStart_of_le (s := S65x4x8x128x128) (t := S1x4x8x128x128) rfl start 4 0 h4 (by show 0 + 128 ≤ 128; omega)
  pointwise
  by_cases hn : n = k
  · subst hn
    rw [if_pos rfl, dif_pos (by rw [c0, c1, c2, c3, c4]; have := b.isLt; have := h.isLt; have := d.isLt; have := e.isLt; omega)]
    refine congrArg u ?_
    congr 1 <;> refine Fin.ext ?_ <;> simp only [c1, c2, c3, c4, Nat.sub_zero]
  · rw [if_neg hn, dif_neg]
    rw [c0]
    rintro ⟨⟨p, q⟩, -⟩
    exact hn (Fin.ext (by omega))

/-- One entry of the state after a trip: the entry decayed plus the trip's summand. -/
def step (x y z : EReal) : EReal := x * y + z

/-- Equal parts give an equal entry. -/
theorem step_congr {x x' y y' z z' : EReal} (hx : x = x') (hy : y = y') (hz : z = z') : step x y z = step x' y' z' := by rw [hx, hy, hz]

/-- The state after one trip. -/
theorem next_at (W : Valuation τ sig (Elt Ideal)) (k : Fin 65) (hk : (W (Proc.devRef .tc main_v124_2) : S_.Idx → BitVec 32) = fun _ => BitVec.ofNat 32 k.val)
    (b : Fin 4) (h : Fin 8) (d e : Fin 128) :
    (afterL bodyI W (Proc.devRef .tc main_v124_3) : Vec Ideal S4x8x128x128 .f32) (ix4 b h d e) =
      step ((W (Proc.devRef .tc main_v124_3) : Vec Ideal S4x8x128x128 .f32) (ix4 b h d e)) ((W (Proc.devRef .tc main_v124_1) : Vec Ideal S65x4x8 .f32) (ix3 k b h))
        ((W (Proc.devRef .tc main_v124_0) : Vec Ideal S65x4x8x128x128 .f32) (ix5 k b h d e)) := by
  have hs : (BitVec.ofNat 32 k.val).toInt = (k.val : Int) := toInt_ofNat_of_lt (by have := k.isLt; omega)
  rw [trip_main_v124_3]
  exact next_vec _ _ _ _ _ k ((congrArg BitVec.toInt (congrFun hk _)).trans hs) rfl rfl ((congrArg BitVec.toInt (congrFun hk _)).trans hs) rfl rfl rfl rfl b h d e

/-- The stack of states after one trip. -/
theorem stacked_at (W : Valuation τ sig (Elt Ideal)) (k : Fin 65) (hk : (W (Proc.devRef .tc main_v124_2) : S_.Idx → BitVec 32) = fun _ => BitVec.ofNat 32 k.val)
    (n : Fin 65) (b : Fin 4) (h : Fin 8) (d e : Fin 128) :
    (afterL bodyI W (Proc.devRef .tc main_v124_4) : Vec Ideal S65x4x8x128x128 .f32) (ix5 n b h d e) =
      if n = k then (W (Proc.devRef .tc main_v124_3) : Vec Ideal S4x8x128x128 .f32) (ix4 b h d e)
      else (W (Proc.devRef .tc main_v124_4) : Vec Ideal S65x4x8x128x128 .f32) (ix5 n b h d e) := by
  have hs : (BitVec.ofNat 32 k.val).toInt = (k.val : Int) := toInt_ofNat_of_lt (by have := k.isLt; omega)
  rw [trip_main_v124_4]
  exact stack_vec _ _ _ k ((congrArg BitVec.toInt (congrFun hk _)).trans hs) rfl rfl rfl rfl n b h d e

variable (m : (ℓ : Loc nD τ sig) → Buf (Elt Ideal) ℓ) (c : Dev nD)

/-- Every reference a trip writes. -/
abbrev tripW : List (Ref sig .tc) := condOps_W ++ (while0Ops0_W ++ (while0Ops0_1_W ++ (while0Ops0_2_W ++ (while0Ops0_3_W ++ while0Ops0_4_W))))

/-- A reference no trip writes holds, before every trip, what it held before the loop. -/
theorem kept (r : Ref sig .tc) (hr : r ∉ tripW) : ∀ k, atK m k c (Proc.devRef .tc r) = entryContents preI m c (Proc.devRef .tc r)
  | 0 => rfl
  | k + 1 => by
    simp only [tripW, List.mem_append, not_or] at hr
    obtain ⟨hc, h0, h1, h2, h3, h4⟩ := hr
    rw [← kept r (by simp only [tripW, List.mem_append, not_or]; exact ⟨hc, h0, h1, h2, h3, h4⟩) k,
      show atK m (k + 1) c = afterL bodyI (after condOps (atK m k c)) from rfl]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes hc]

/-- The loop's parts and summands are the same before every trip. -/
theorem parts_kept : ∀ k, atK m k c (Proc.devRef .tc main_v124_0) = entryContents preI m c (Proc.devRef .tc main_v124_0) ∧
    atK m k c (Proc.devRef .tc main_v124_1) = entryContents preI m c (Proc.devRef .tc main_v124_1)
  | 0 => ⟨rfl, rfl⟩
  | k + 1 => by
    obtain ⟨p, q⟩ := parts_kept k
    rw [← p, ← q, show atK m (k + 1) c = afterL bodyI (after condOps (atK m k c)) from rfl, trip_main_v124_0, trip_main_v124_1,
      after_of_writes_sub _ _ condOps_writes (by decide +kernel), after_of_writes_sub _ _ condOps_writes (by decide +kernel)]
    exact ⟨rfl, rfl⟩

/-- The contents the loop is entered with. -/
theorem entry_eq : entryContents preI m c = after hostOps0_10 (laid (launchContents m c)) := rfl

/-- The counter before trip `k`. -/
theorem counter (k : ℕ) : (after condOps (atK m k c) (Proc.devRef .tc main_v124_2) : S_.Idx → BitVec 32) = fun _ => BitVec.ofNat 32 k := by
  rw [after_of_writes_sub _ _ condOps_writes (by decide +kernel), atK_ctr]
  simp [Scf.iv]

/-- Before trip `k` the state is the model's state of chunk `k`. -/
theorem state_at (b : Fin 4) (h : Fin 8) (d e : Fin 128) : ∀ k, k ≤ 65 →
    (atK m k c (Proc.devRef .tc main_v124_3) : Vec Ideal S4x8x128x128 .f32) (ix4 b h d e) =
      carried kdecR decR (launchContents m c (Proc.devRef .tc main_arg1)) (launchContents m c (Proc.devRef .tc main_arg2)) b h k d e
  | 0, _ => start_at (launchContents m c) b h d e
  | k + 1, hk => by
    refine (next_at (after condOps (atK m k c)) ⟨k, hk⟩ (counter m c k) b h d e).trans ?_
    rw [after_of_writes_sub _ _ condOps_writes (by decide +kernel), after_of_writes_sub _ _ condOps_writes (by decide +kernel),
      after_of_writes_sub _ _ condOps_writes (by decide +kernel), (parts_kept m c k).1, (parts_kept m c k).2, entry_eq]
    refine (step_congr (state_at b h d e k (by omega)) (decay_at (launchContents m c) b ⟨k, hk⟩ h)
      (local_at (launchContents m c) b ⟨k, hk⟩ h d e)).trans ?_
    rw [carried, dif_pos (show k < 65 from hk)]
    rfl

/-- Before trip `k` the stack holds the states of the chunks before `k`. -/
theorem stack_at (n : Fin 65) (b : Fin 4) (h : Fin 8) (d e : Fin 128) : ∀ k, k ≤ 65 → n.val < k →
    (atK m k c (Proc.devRef .tc main_v124_4) : Vec Ideal S65x4x8x128x128 .f32) (ix5 n b h d e) =
      carried kdecR decR (launchContents m c (Proc.devRef .tc main_arg1)) (launchContents m c (Proc.devRef .tc main_arg2)) b h n.val d e
  | 0, _, hn => absurd hn (Nat.not_lt_zero _)
  | k + 1, hk, hn => by
    refine (stacked_at (after condOps (atK m k c)) ⟨k, hk⟩ (counter m c k) n b h d e).trans ?_
    rw [after_of_writes_sub _ _ condOps_writes (by decide +kernel), after_of_writes_sub _ _ condOps_writes (by decide +kernel)]
    by_cases hnk : n = ⟨k, hk⟩
    · rw [if_pos hnk]
      subst hnk
      exact state_at m c b h d e k (by omega)
    · rw [if_neg hnk]
      exact stack_at n b h d e k (by omega) (by have : n.val ≠ k := fun q => hnk (Fin.ext q); omega)

end Cert.Proof.Loop
end
-- ==== Proof.After.lean ====
/-
  What the reference does after its loop: the states it stacked give every row what it enters with, and the rows are
  normalised, gated and padded.
-/
module
public import proofs.«01_k».proof.Proof.Loop
@[expose] public section
noncomputable section
open Idealize.ShloMosaic Idealize.ShloMosaic.TcCoe Idealize.SL.Sem Idealize.ShloMosaic.StableHlo Cert.ReferenceIdeal Cert.ReferenceIdeal.Gen
open Cert.Proof.Model Cert.ReferenceIdeal.Value Cert.Proof.Const
open Cert.Proof.Stage (col)
namespace Cert.Proof.After

/-- The rows before normalisation, of the loop's stack, the rotated queries, the logarithms and the rows' own sums. -/
def mixVec (st : Vec Ideal S65x4x8x128x128 .f32) (q own : Vec Ideal S4x65x128x8x128 .f32) (lg : Vec Ideal S8 .f32) (ps : Vec Ideal S128 .f32) :
    Vec Ideal S4x8208x8x128 .f32 :=
  extractStridedSlice S4x8208x8x128 ![0, 112, 0, 0]
    (shapeCast S4x8320x8x128
      (addf own
        (transpose S4x65x128x8x128 [0, 1, 4, 2, 3]
          (Host.dotGeneral (F := Ideal) (φ₁ := .f32) (φ₂ := .f32) dot_S4x65x8x128x128_S4x65x128x8x128_S4x65x8x128x128_3_4_4_2_012_013 none
            (transpose S4x65x8x128x128 [1, 0, 2, 3, 4] st transposes_S65x4x8x128x128_S4x65x8x128x128_1_0_2_3_4)
            (mulf q
              (broadcastInDim S4x65x128x8x128 ![0, 1, 2, 3, 4] bcast_S1x1x128x8x1_S4x65x128x8x128_0_1_2_3_4
                (broadcastInDim S1x1x128x8x1 ![2, 3] bcast_S128x8_S1x1x128x8x1_2_3
                  (transpose S128x8 [1, 0]
                    (Host.exp
                      (mulf
                        (broadcastInDim S8x128 ![0, 1] bcast_S1x128_S8x128_0_1
                          (broadcastInDim S1x128 ![1] bcast_S128_S1x128_1
                            (addf ps (broadcastInDim S128 ![] bcast_S_S128 (constant (F := Ideal) S_ FTy.f32 0x3F800000#32)))))
                        (broadcastInDim S8x128 ![0, 1] bcast_S8x1_S8x128_0_1 (broadcastInDim S8x1 ![0] bcast_S8_S8x1_0 lg))))
                    transposes_S8x128_S128x8_1_0)))))
          transposes_S4x65x8x128x128_S4x65x128x8x128_0_1_4_2_3))
      shapeCasts_S4x65x128x8x128_S4x8320x8x128)
    slices_S4x8320x8x128_S4x8208x8x128_0_112_0_0

/-- The rows before normalisation are `mixVec`. -/
theorem mix_vec (W : Valuation τ sig (Elt Ideal)) : after hostOps0_11 W (Proc.devRef .tc main_v142) =
    mixVec (W (Proc.devRef .tc main_v124_4)) (W (Proc.devRef .tc main_v65)) (W (Proc.devRef .tc main_v100)) (W (Proc.devRef .tc main_v77)) (W (Proc.devRef .tc main_v78)) := by
  unfold mixVec
  after_results
  rfl

/-- The position in the sequence of padded row `p`. -/
def ahead (p : Fin 8320) (hp : 112 ≤ p.val) : Fin 8208 := ⟨p.val - 112, by omega⟩

/-- `mixVec` at a row that is not padding. -/
theorem mixVec_at (st : Vec Ideal S65x4x8x128x128 .f32) (q own : Vec Ideal S4x65x128x8x128 .f32) (lg : Vec Ideal S8 .f32) (ps : Vec Ideal S128 .f32)
    (b : Fin 4) (n : Fin 65) (i : Fin 128) (h : Fin 8) (e : Fin 128) (hp : 112 ≤ (pos n i).val) :
    mixVec st q own lg ps (ix4 b (ahead (pos n i) hp) h e) =
      own (ix5 b n i h e) + ∑ d : Fin 128, st (ix5 n b h d e) *
        (q (ix5 b n i h d) * Ideal.exp ((ps (ix1 i) + 1) * lg (ix1 h))) := by
  have hn : ∀ h1, (⟨(112 + (ahead (pos n i) hp).val) / 128, h1⟩ : Fin 65) = n := fun _ => Fin.ext (by
    have := i.isLt; simp only [ahead, pos] at hp ⊢; omega)
  have hi : ∀ h1, (⟨(112 + (ahead (pos n i) hp).val) % 128, h1⟩ : Fin 128) = i := fun _ => Fin.ext (by
    have := i.isLt; simp only [ahead, pos] at hp ⊢; omega)
  generalize ahead (pos n i) hp = s at hn hi ⊢
  pointwise [mixVec]
  simp only [hn, hi]

/-- The rows normalised, gated and padded. -/
def endVec (g : Vec Ideal S4x8208x1024 .f32) (y : Vec Ideal S4x8208x8x128 .f32) : Vec Ideal S33280x1024 .bf16 :=
  truncf .bf16
    (shapeCast S33280x1024
      (pad S4x8320x1024 ![0, 112, 0] ![0, 0, 0] ![0, 0, 0]
        (mulf
          (mulf g
            (Host.divf (broadcastInDim S4x8208x1024 ![] bcast_S_S4x8208x1024 (constant (F := Ideal) S_ .f32 0x3F800000#32))
              (addf (broadcastInDim S4x8208x1024 ![] bcast_S_S4x8208x1024 (constant (F := Ideal) S_ .f32 0x3F800000#32)) (Host.exp (Host.negf g)))))
          (shapeCast S4x8208x1024
            (mulf y
              (broadcastInDim S4x8208x8x128 ![0, 1, 2, 3] bcast_S4x8208x8x1_S4x8208x8x128_0_1_2_3
                (Host.rsqrt
                  (addf
                    (Host.divf
                      (broadcastInDim S4x8208x8x1 ![0, 1, 2] bcast_S4x8208x8_S4x8208x8x1_0_1_2
                        (Host.reduceAdd (mulf y y) (constant (F := Ideal) S_ .f32 0x00000000#32) reducesTo_S4x8208x8x128_S4x8208x8_d3 h_S_))
                      (broadcastInDim S4x8208x8x1 ![] bcast_S_S4x8208x8x1 (constant (F := Ideal) S_ .f32 0x43000000#32)))
                    (broadcastInDim S4x8208x8x1 ![] bcast_S_S4x8208x8x1 (constant (F := Ideal) S_ .f32 0x358637BD#32))))))
            shapeCasts_S4x8208x8x128_S4x8208x1024))
        (sitofp .f32 (constantI S_ 32 0#32)) pads_S4x8208x1024_S4x8320x1024_000_11200_000 h_S_)
      shapeCasts_S4x8320x1024_S33280x1024)
    bitsLt_bf16_f32

/-- The result is `endVec`. -/
theorem end_vec (W : Valuation τ sig (Elt Ideal)) :
    after hostOps0_15 (after hostOps0_14 (after hostOps0_13 (after hostOps0_12 W))) (Proc.devRef .tc main_v158) =
      endVec (W (Proc.devRef .tc main_arg3)) (W (Proc.devRef .tc main_v142)) := by
  unfold endVec
  after_results
  rfl

/-- `endVec` at a row that is not padding. -/
theorem endVec_row (g : Vec Ideal S4x8208x1024 .f32) (y : Vec Ideal S4x8208x8x128 .f32) (b : Fin 4) (p : Fin 8320) (h : Fin 8) (e : Fin 128) (hp : 112 ≤ p.val) :
    endVec g y (ix2 (row b p) (col h e)) =
      Stage.gate (g (ix3 b (ahead p hp) (col h e))) * Stage.rms (fun x => y (ix4 b (ahead p hp) h x)) e := by
  have hr : (row b p).val = 8320 * b.val + p.val := rfl
  have hc : (col h e).val = 128 * h.val + e.val := rfl
  have hb : ∀ h1, (⟨(row b p).val / 8320, h1⟩ : Fin 4) = b := fun _ => Fin.ext (by have := p.isLt; simp only [hr]; omega)
  have hs : ∀ h1, (⟨(row b p).val % 8320 - 112, h1⟩ : Fin 8208) = ahead p hp := fun _ => Fin.ext (by have := p.isLt; simp only [hr, ahead]; omega)
  have hh : ∀ h1, (⟨(col h e).val / 128, h1⟩ : Fin 8) = h := fun _ => Fin.ext (by have := e.isLt; simp only [hc]; omega)
  have he : ∀ h1, (⟨(col h e).val % 128, h1⟩ : Fin 128) = e := fun _ => Fin.ext (by have := e.isLt; simp only [hc]; omega)
  have hi : (row b p).val / 8320 < 4 ∧ 112 ≤ (row b p).val % 8320 ∧ (row b p).val % 8320 - 112 < 8208 := by
    have := b.isLt; have := p.isLt; rw [hr]; omega
  pointwise [endVec]
  rw [dif_pos hi]
  simp only [hb, hs, hh, he]
  unfold Stage.gate Stage.rms
  rw [zero_sub]
  rfl

/-- `endVec` at a row of the padding. -/
theorem endVec_pad (g : Vec Ideal S4x8208x1024 .f32) (y : Vec Ideal S4x8208x8x128 .f32) (b : Fin 4) (p : Fin 8320) (h : Fin 8) (e : Fin 128) (hp : p.val < 112) :
    endVec g y (ix2 (row b p) (col h e)) = (0 : EReal) := by
  have hr : (row b p).val = 8320 * b.val + p.val := rfl
  have hi : ¬((row b p).val / 8320 < 4 ∧ 112 ≤ (row b p).val % 8320 ∧ (row b p).val % 8320 - 112 < 8208) := by
    rw [hr]; omega
  pointwise [endVec]
  rw [dif_neg hi]
  exact Before.zero_word

variable (m : (ℓ : Loc nD τ sig) → Buf (Elt Ideal) ℓ) (c : Dev nD)

/-- The contents the loop leaves. -/
def leaves : Valuation τ sig (Elt Ideal) := after condOps (atK m 65 c)

/-- What no trip writes and the loop's entry does not write, the loop leaves as it was laid out. -/
theorem leaves_kept (r : Ref sig .tc) (h0 : r ∉ condOps_W) (h1 : r ∉ Loop.tripW) : leaves m c (Proc.devRef .tc r) =
    after hostOps0_10 (Loop.laid (launchContents m c)) (Proc.devRef .tc r) := by
  unfold leaves
  rw [after_of_writes_sub _ _ condOps_writes h0, Loop.kept m c r h1, Loop.entry_eq]

/-- The queries the loop leaves. -/
theorem queries_at (b : Fin 4) (n : Fin 65) (i : Fin 128) (h : Fin 8) (d : Fin 128) :
    (leaves m c (Proc.devRef .tc main_v65) : Vec Ideal S4x65x128x8x128 .f32) (ix5 b n i h d) =
      turn (launchContents m c (Proc.devRef .tc main_arg0)) b h (pos n i) d := by
  rw [leaves_kept m c main_v65 (by decide +kernel) (by decide +kernel), after_of_writes_sub _ _ hostOps0_10_writes (by decide +kernel)]
  exact Before.laid_q _ b n i h d

/-- The logarithms the loop leaves. -/
theorem logs_at (h : Fin 8) : (leaves m c (Proc.devRef .tc main_v77) : Vec Ideal S8 .f32) (ix1 h) = logR h := by
  rw [leaves_kept m c main_v77 (by decide +kernel) (by decide +kernel), after_of_writes_sub _ _ hostOps0_10_writes (by decide +kernel)]
  exact Before.log_at _ h

/-- The row numbers the loop leaves. -/
theorem rows_at (i : Fin 128) : (leaves m c (Proc.devRef .tc main_v78) : Vec Ideal S128 .f32) (ix1 i) =
    FloatOps.sitofp (F := Ideal) FTy.f32 (BitVec.ofNat 32 i.val) := by
  rw [leaves_kept m c main_v78 (by decide +kernel) (by decide +kernel), after_of_writes_sub _ _ hostOps0_10_writes (by decide +kernel)]
  exact Before.row_at _ i

/-- The gates the loop leaves. -/
theorem gates_left : leaves m c (Proc.devRef .tc main_arg3) = launchContents m c (Proc.devRef .tc main_arg3) := by
  rw [leaves_kept m c main_arg3 (by decide +kernel) (by decide +kernel), after_of_writes_sub _ _ hostOps0_10_writes (by decide +kernel)]
  exact Before.gates_at _

/-- Summing the retention leaves the gates. -/
theorem gates_past (W : Valuation τ sig (Elt Ideal)) : after hostOps0_11 W (Proc.devRef .tc main_arg3) = W (Proc.devRef .tc main_arg3) := by
  after_results

/-- The retention before normalisation at a row that is not padding. -/
theorem mixed_at (b : Fin 4) (n : Fin 65) (i : Fin 128) (h : Fin 8) (e : Fin 128) (hp : 112 ≤ (pos n i).val) :
    (after hostOps0_11 (leaves m c) (Proc.devRef .tc main_v142) : Vec Ideal S4x8208x8x128 .f32) (ix4 b (ahead (pos n i) hp) h e) =
      mixed maskR qdecR kdecR decR (launchContents m c (Proc.devRef .tc main_arg0)) (launchContents m c (Proc.devRef .tc main_arg1))
        (launchContents m c (Proc.devRef .tc main_arg2)) b h n i e := by
  refine (congrFun (mix_vec (leaves m c)) _).trans ((mixVec_at _ _ _ _ _ b n i h e hp).trans ?_)
  unfold mixed Stage.mix
  refine (add_comm (G := EReal) _ _).trans (congrArg₂ (fun x y : EReal => x + y) (Finset.sum_congr rfl fun d _ => ?_) ?_)
  · refine (mul_comm (G := EReal) _ _).trans (congrArg₂ (fun x y : EReal => x * y) (congrArg₂ (fun x y : EReal => x * y) (queries_at m c b n i h d) ?_) ?_)
    · exact congrArg₂ (fun x y : EReal => Ideal.exp ((x + 1) * y)) (rows_at m c i) (logs_at m c h)
    · unfold leaves
      rw [after_of_writes_sub _ _ condOps_writes (by decide +kernel)]
      exact Loop.stack_at m c n b h d e 65 (le_refl _) n.isLt
  · rw [leaves_kept m c main_v100 (by decide +kernel) (by decide +kernel)]
    exact Loop.own_at _ b n i h e

/-- The reference's result, read at head `h`, lane `e` of row `i` of chunk `n`. -/
theorem reference_value (b : Fin 4) (n : Fin 65) (i : Fin 128) (h : Fin 8) (e : Fin 128) :
    (finalContents condOps preI bodyI postI 65 m c (Proc.devRef .tc main_v158) : Vec Ideal S33280x1024 .bf16) (ix2 (row b (pos n i)) (col h e)) =
      value maskR qdecR kdecR decR (launchContents m c (Proc.devRef .tc main_arg0)) (launchContents m c (Proc.devRef .tc main_arg1))
        (launchContents m c (Proc.devRef .tc main_arg2)) (launchContents m c (Proc.devRef .tc main_arg3)) b h n i e := by
  refine (congrFun (end_vec (after hostOps0_11 (leaves m c))) _).trans ?_
  by_cases hp : 112 ≤ (pos n i).val
  · refine (endVec_row _ _ b (pos n i) h e hp).trans ?_
    unfold value
    refine congrArg₂ (fun x y : EReal => x * y) (congrArg Stage.gate ?_) (congrArg (fun y => Stage.rms y e) (funext fun x => mixed_at m c b n i h x hp))
    rw [gates_past, gates_left]
    unfold lane padded
    rw [dif_neg (by omega)]
    rfl
  · refine (endVec_pad _ _ b (pos n i) h e (by omega)).trans ?_
    unfold value Stage.gate
    rw [Before.lane_pad _ b h e (pos n i) (by omega), zero_mul, zero_mul]

end Cert.Proof.After
end
-- ==== Proof.Chunk.lean ====
module
public import proofs.«01_k».proof.Proof.Body
public import proofs.«01_k».proof.Proof.Model
public import Idealize.ShloMosaic.Lib.Claim
@[expose] public section
noncomputable section
open Idealize.ShloMosaic Idealize.SL.Sem Cert.KernelIdeal Cert.KernelIdeal.Gen
open Cert.Proof.Stage (col)
open Cert.Proof.Model
namespace Cert.Proof.Chunk

variable (m : (ℓ : Loc nD τ sig) → Buf (Elt Ideal) ℓ) (c : Dev nD)

theorem mid (b : Fin 4) (n : ℕ) (hn : n < 65) : 65 * b.val + n < cfg0.N := by
  rw [show cfg0.N = 260 from N_0]; omega

theorem idx_0 : ∀ t : Fin grid0.N, win0_0.index t = ![t.val, 0] := by decide +kernel
theorem idx_1 : ∀ t : Fin grid0.N, win0_1.index t = ![t.val, 1] := by decide +kernel
theorem idx_2 : ∀ t : Fin grid0.N, win0_2.index t = ![t.val, 2] := by decide +kernel
theorem idx_3 : ∀ t : Fin grid0.N, win0_3.index t = ![t.val, 3] := by decide +kernel
theorem idx_4 : ∀ t : Fin grid0.N, win0_4.index t = ![t.val % 65, 0] := by decide +kernel
theorem idx_5 : ∀ t : Fin grid0.N, win0_5.index t = ![t.val % 65, 0] := by decide +kernel

/-- The one array the kernel reads: the four arguments side by side, behind 112 zero rows, all batches' rows in one axis. -/
def joined (a0 a1 a2 a3 : Vec Ideal S4x8208x1024 .f32) : Vec Ideal S33280x4096 .f32 :=
  shapeCast S33280x4096
    (concatenate S4x8320x4096 1
      [⟨S4x112x4096, broadcastInDim S4x112x4096 ![] bcast_S_S4x112x4096 (constant (F := Ideal) S_ FTy.f32 0#32)⟩,
        ⟨S4x8208x4096,
          concatenate S4x8208x4096 2 [⟨S4x8208x1024, a0⟩, ⟨S4x8208x1024, a1⟩, ⟨S4x8208x1024, a2⟩, ⟨S4x8208x1024, a3⟩]
            concatenates_S4x8208x1024_S4x8208x1024_S4x8208x1024_S4x8208x1024_S4x8208x4096_d2⟩]
      concatenates_S4x112x4096_S4x8208x4096_S4x8320x4096_d1)
    shapeCasts_S4x8320x4096_S33280x4096

/-- The joined array's columns from 0 on are argument 0 behind its zero rows. -/
theorem joined_0 (a0 a1 a2 a3 : Vec Ideal S4x8208x1024 .f32) (b : Fin 4) (p : Fin 8320) (d : Fin 1024) :
    joined a0 a1 a2 a3 (ix2 (row b p) (⟨0 + d.val, by omega⟩ : Fin 4096)) = padded a0 b p d := by
  have hb := b.isLt
  have hp := p.isLt
  have e1 : (8320 * b.val + p.val) / 8320 = b.val := by omega
  have e2 : (8320 * b.val + p.val) % 8320 = p.val := by omega
  unfold joined row
  pointwise [padded]
  all_goals (try simp only [e1, e2])
  all_goals (split_ifs <;> first | omega | rfl)

/-- Where window 0 lies at chunk `n` of batch `b`. -/
theorem at_0 (b : Fin 4) (n : Fin 65) (i : Fin 128) (d : Fin 1024) :
    (win0_0.blk ⟨65 * b.val + n.val, mid b n.val n.isLt⟩).view.emb (ix2 i d) = ix2 (row b (pos n i)) (⟨0 + d.val, by omega⟩ : Fin 4096) := by
  unfold row pos
  blk_ext [idx_0]

/-- A block of window 0 holds the rows of one chunk of argument 0. -/
theorem blk_0 (b : Fin 4) (n : Fin 65) (i : Fin 128) (d : Fin 1024) :
    (iblk m c 0 ⟨65 * b.val + n.val, mid b n.val n.isLt⟩ : Vec Ideal S128x1024 .f32) (ix2 i d) = padded (m ((c.tc).loc main_arg0)) b (pos n i) d := by
  unfold iblk
  entry_read
  blk_simp
  rw [at_0]
  exact joined_0 (m ((c.tc).loc main_arg0)) (m ((c.tc).loc main_arg1)) (m ((c.tc).loc main_arg2)) (m ((c.tc).loc main_arg3)) b (pos n i) d

/-- The joined array's columns from 1024 on are argument 1 behind its zero rows. -/
theorem joined_1 (a0 a1 a2 a3 : Vec Ideal S4x8208x1024 .f32) (b : Fin 4) (p : Fin 8320) (d : Fin 1024) :
    joined a0 a1 a2 a3 (ix2 (row b p) (⟨1024 + d.val, by omega⟩ : Fin 4096)) = padded a1 b p d := by
  have hb := b.isLt
  have hp := p.isLt
  have e1 : (8320 * b.val + p.val) / 8320 = b.val := by omega
  have e2 : (8320 * b.val + p.val) % 8320 = p.val := by omega
  have e3 : 1024 + d.val - 1024 = d.val := by omega
  unfold joined row
  pointwise [padded]
  all_goals (try simp only [e1, e2, e3])
  all_goals (split_ifs <;> first | omega | rfl)

/-- Where window 1 lies at chunk `n` of batch `b`. -/
theorem at_1 (b : Fin 4) (n : Fin 65) (i : Fin 128) (d : Fin 1024) :
    (win0_1.blk ⟨65 * b.val + n.val, mid b n.val n.isLt⟩).view.emb (ix2 i d) = ix2 (row b (pos n i)) (⟨1024 + d.val, by omega⟩ : Fin 4096) := by
  unfold row pos
  blk_ext [idx_1]

/-- A block of window 1 holds the rows of one chunk of argument 1. -/
theorem blk_1 (b : Fin 4) (n : Fin 65) (i : Fin 128) (d : Fin 1024) :
    (iblk m c 1 ⟨65 * b.val + n.val, mid b n.val n.isLt⟩ : Vec Ideal S128x1024 .f32) (ix2 i d) = padded (m ((c.tc).loc main_arg1)) b (pos n i) d := by
  unfold iblk
  entry_read
  blk_simp
  rw [at_1]
  exact joined_1 (m ((c.tc).loc main_arg0)) (m ((c.tc).loc main_arg1)) (m ((c.tc).loc main_arg2)) (m ((c.tc).loc main_arg3)) b (pos n i) d

/-- The joined array's columns from 2048 on are argument 2 behind its zero rows. -/
theorem joined_2 (a0 a1 a2 a3 : Vec Ideal S4x8208x1024 .f32) (b : Fin 4) (p : Fin 8320) (d : Fin 1024) :
    joined a0 a1 a2 a3 (ix2 (row b p) (⟨2048 + d.val, by omega⟩ : Fin 4096)) = padded a2 b p d := by
  have hb := b.isLt
  have hp := p.isLt
  have e1 : (8320 * b.val + p.val) / 8320 = b.val := by omega
  have e2 : (8320 * b.val + p.val) % 8320 = p.val := by omega
  have e3 : 2048 + d.val - 1024 - 1024 = d.val := by omega
  unfold joined row
  pointwise [padded]
  all_goals (try simp only [e1, e2, e3])
  all_goals (split_ifs <;> first | omega | rfl)

/-- Where window 2 lies at chunk `n` of batch `b`. -/
theorem at_2 (b : Fin 4) (n : Fin 65) (i : Fin 128) (d : Fin 1024) :
    (win0_2.blk ⟨65 * b.val + n.val, mid b n.val n.isLt⟩).view.emb (ix2 i d) = ix2 (row b (pos n i)) (⟨2048 + d.val, by omega⟩ : Fin 4096) := by
  unfold row pos
  blk_ext [idx_2]

/-- A block of window 2 holds the rows of one chunk of argument 2. -/
theorem blk_2 (b : Fin 4) (n : Fin 65) (i : Fin 128) (d : Fin 1024) :
    (iblk m c 2 ⟨65 * b.val + n.val, mid b n.val n.isLt⟩ : Vec Ideal S128x1024 .f32) (ix2 i d) = padded (m ((c.tc).loc main_arg2)) b (pos n i) d := by
  unfold iblk
  entry_read
  blk_simp
  rw [at_2]
  exact joined_2 (m ((c.tc).loc main_arg0)) (m ((c.tc).loc main_arg1)) (m ((c.tc).loc main_arg2)) (m ((c.tc).loc main_arg3)) b (pos n i) d

/-- The joined array's columns from 3072 on are argument 3 behind its zero rows. -/
theorem joined_3 (a0 a1 a2 a3 : Vec Ideal S4x8208x1024 .f32) (b : Fin 4) (p : Fin 8320) (d : Fin 1024) :
    joined a0 a1 a2 a3 (ix2 (row b p) (⟨3072 + d.val, by omega⟩ : Fin 4096)) = padded a3 b p d := by
  have hb := b.isLt
  have hp := p.isLt
  have e1 : (8320 * b.val + p.val) / 8320 = b.val := by omega
  have e2 : (8320 * b.val + p.val) % 8320 = p.val := by omega
  have e3 : 3072 + d.val - 1024 - 1024 - 1024 = d.val := by omega
  unfold joined row
  pointwise [padded]
  all_goals (try simp only [e1, e2, e3])
  all_goals (split_ifs <;> first | omega | rfl)

/-- Where window 3 lies at chunk `n` of batch `b`. -/
theorem at_3 (b : Fin 4) (n : Fin 65) (i : Fin 128) (d : Fin 1024) :
    (win0_3.blk ⟨65 * b.val + n.val, mid b n.val n.isLt⟩).view.emb (ix2 i d) = ix2 (row b (pos n i)) (⟨3072 + d.val, by omega⟩ : Fin 4096) := by
  unfold row pos
  blk_ext [idx_3]

/-- A block of window 3 holds the rows of one chunk of argument 3. -/
theorem blk_3 (b : Fin 4) (n : Fin 65) (i : Fin 128) (d : Fin 1024) :
    (iblk m c 3 ⟨65 * b.val + n.val, mid b n.val n.isLt⟩ : Vec Ideal S128x1024 .f32) (ix2 i d) = padded (m ((c.tc).loc main_arg3)) b (pos n i) d := by
  unfold iblk
  entry_read
  blk_simp
  rw [at_3]
  exact joined_3 (m ((c.tc).loc main_arg0)) (m ((c.tc).loc main_arg1)) (m ((c.tc).loc main_arg2)) (m ((c.tc).loc main_arg3)) b (pos n i) d

theorem at_4 (b : Fin 4) (n : Fin 65) (i : Fin 128) (d : Fin 128) :
    (win0_4.blk ⟨65 * b.val + n.val, mid b n.val n.isLt⟩).view.emb (ix2 i d) = ix2 (pos n i) d := by
  unfold pos
  blk_ext [idx_4]

theorem blk_4 (b : Fin 4) (n : Fin 65) (i : Fin 128) (d : Fin 128) :
    (iblk m c 4 ⟨65 * b.val + n.val, mid b n.val n.isLt⟩ : Vec Ideal S128x128 .f32) (ix2 i d) = cosT (pos n i) d := by
  unfold iblk
  entry_read
  blk_simp
  rw [at_4]
  generalize pos n i = p
  pointwise [cosT, angle]

theorem at_5 (b : Fin 4) (n : Fin 65) (i : Fin 128) (d : Fin 128) :
    (win0_5.blk ⟨65 * b.val + n.val, mid b n.val n.isLt⟩).view.emb (ix2 i d) = ix2 (pos n i) d := by
  unfold pos
  blk_ext [idx_5]

theorem blk_5 (b : Fin 4) (n : Fin 65) (i : Fin 128) (d : Fin 128) :
    (iblk m c 5 ⟨65 * b.val + n.val, mid b n.val n.isLt⟩ : Vec Ideal S128x128 .f32) (ix2 i d) = sinT (pos n i) d := by
  unfold iblk
  entry_read
  blk_simp
  rw [at_5]
  generalize pos n i = p
  pointwise [sinT, angle]

/-- The state batch `b` enters chunk `n` with. -/
def stK (b : Fin 4) : ℕ → Vec Ideal S8x128x128 .f32
  | 0 => Body.zeroG
  | n + 1 => if h : 65 * b.val + n < cfg0.N then
      Body.stG (iblk m c 1 ⟨_, h⟩) (iblk m c 2 ⟨_, h⟩) (iblk m c 4 ⟨_, h⟩) (iblk m c 5 ⟨_, h⟩) (stK b n) Body.kdecG
    else Body.zeroG

theorem stK_succ (b : Fin 4) (n : ℕ) (h : 65 * b.val + n < cfg0.N) : stK m c b (n + 1) =
    Body.stG (iblk m c 1 ⟨_, h⟩) (iblk m c 2 ⟨_, h⟩) (iblk m c 4 ⟨_, h⟩) (iblk m c 5 ⟨_, h⟩) (stK m c b n) Body.kdecG := by
  conv_lhs => unfold stK
  exact dif_pos h

theorem outs (b : Fin 4) : ∀ (n : ℕ) (hn : n < 65), outsAt0 m c (65 * b.val + n) (mid b n hn) =
    (Body.outG (iblk m c 0 ⟨_, mid b n hn⟩) (iblk m c 1 ⟨_, mid b n hn⟩) (iblk m c 2 ⟨_, mid b n hn⟩) (iblk m c 3 ⟨_, mid b n hn⟩)
      (iblk m c 4 ⟨_, mid b n hn⟩) (iblk m c 5 ⟨_, mid b n hn⟩) (stK m c b n) Body.maskG Body.qdecG,
      stK m c b (n + 1), Body.maskG, Body.qdecG, Body.kdecG)
  | 0, hn => by
    have h1 : ¬cond0_0 (grid0.coords ⟨1, by rw [show grid0.N = 260 from N_0]; omega⟩) := fun h => absurd ((hcond0_0 _).mp h) (by decide)
    have h0 : (⟨65 * b.val + 0, mid b 0 hn⟩ : Fin cfg0.N).val % 65 = 0 := by simp
    rw [outsAt0_A m c ⟨65 * b.val + 0, mid b 0 hn⟩ h0]
    rw [Body.out_first _ _ _ _ _ _ _ _ _ _ _ _ _ _ _ _ _ _ _ _ _ _ _ _ _ _ _ _ _ _ _ _ h1]
    rw [Body.state_first, Body.mask_first, Body.qdec_first, Body.kdec_first]
    rw [stK_succ m c b 0 (mid b 0 hn)]
    rfl
  | n + 1, hn => by
    have h0 : ¬(⟨65 * b.val + (n + 1), mid b (n + 1) hn⟩ : Fin cfg0.N).val % 65 = 0 := by
      show ¬(65 * b.val + (n + 1)) % 65 = 0
      omega
    have ih := outs b n (by omega)
    show outsAt0 m c (65 * b.val + n + 1) (mid b (n + 1) hn) = _
    rw [Value.outsAt0_succ, ih]
    refine (Value.stAt0_B m c ⟨65 * b.val + (n + 1), mid b (n + 1) hn⟩ _ h0).trans ?_
    dsimp only
    rw [Body.out_later, Body.state_later]
    rw [stK_succ m c b (n + 1) (mid b (n + 1) hn)]
    rfl

/-- The state the kernel carries is the model's. -/
theorem stK_eq (b : Fin 4) (h : Fin 8) : ∀ (n : ℕ), n ≤ 65 → ∀ d e : Fin 128, stK m c b n (ix3 h d e) =
    carried Body.kdecK Body.decK (m ((c.tc).loc main_arg1)) (m ((c.tc).loc main_arg2)) b h n d e
  | 0, _, d, e => rfl
  | n + 1, hn, d, e => by
    rw [stK_succ m c b n (mid b n (by omega))]
    unfold carried
    rw [dif_pos (show n < 65 by omega)]
    have B1 := blk_1 m c b ⟨n, by omega⟩
    have B2 := blk_2 m c b ⟨n, by omega⟩
    have B4 := blk_4 m c b ⟨n, by omega⟩
    have B5 := blk_5 m c b ⟨n, by omega⟩
    simp only [Body.stG, Body.sq0, Body.sq1, Body.sq2, Stage.left, Stage.next, Stage.turned, Stage.rot, Stage.lanes, Stage.square,
      key, turn, lane, B1, B2, B4, B5, stK_eq b h n (by omega)]
    rfl

/-- Where the kernel's result holds row `i` of chunk `n`. -/
theorem G6_at (b : Fin 4) (n : Fin 65) (i : Fin 128) (C : Fin 1024) :
    (Value.G6 m c : Vec Ideal S33280x1024 .bf16) (ix2 (row b (pos n i)) C) =
      (outsAt0 m c (65 * b.val + n.val) (mid b n.val n.isLt)).1 (ix2 i C) := by
  have hp : Value.pt6Of (ix2 (row b (pos n i)) C) = 65 * b.val + n.val := by
    show 1 * ((8320 * b.val + (128 * n.val + i.val)) / 128 - 0) + 1 * (C.val / 1024 - 0) = _
    omega
  have hl : Value.loc6Of (ix2 (row b (pos n i)) C) = ix2 i C := by
    funext a
    match a with
    | 0 => exact Fin.ext (show (8320 * b.val + (128 * n.val + i.val)) % 128 = i.val by omega)
    | 1 => exact Fin.ext (show C.val % 1024 = C.val by omega)
  unfold Value.G6
  have hm := mid b n.val n.isLt
  rw [Value.outsAt0_sweep, dif_pos (hp ▸ hm)]
  simp only [hp]
  exact congrArg _ hl

/-- A chunk's value from the lanes it reads. -/
theorem given_of {xq xk xv xg : Vec Ideal S128x1024 .f32} {cs sn : Vec Ideal S128x128 .f32} {st mask qd : Vec Ideal S8x128x128 .f32}
    {h : Fin 8} {i e : Fin 128} {Q K V M D S : Fin 128 → Fin 128 → EReal} {g : EReal}
    (hq : ∀ i d, Stage.turned xq cs sn h i d = Q i d) (hk : ∀ i d, Stage.turned xk cs sn h i d * Stage.kscale = K i d)
    (hv : ∀ i d, Stage.lanes xv h i d = V i d) (hm : ∀ i d, Stage.square mask h i d = M i d)
    (hd : ∀ i d, Stage.square qd h i d = D i d) (hs : ∀ i d, Stage.square st h i d = S i d) (hg : Stage.lanes xg h i e = g) :
    Stage.given xq xk xv xg cs sn st mask qd h i e = Stage.gate g * Stage.rms (Stage.mix Q K V M D S i) e := by
  obtain rfl := funext fun i => funext (hq i)
  obtain rfl := funext fun i => funext (hk i)
  obtain rfl := funext fun i => funext (hv i)
  obtain rfl := funext fun i => funext (hm i)
  obtain rfl := funext fun i => funext (hd i)
  obtain rfl := funext fun i => funext (hs i)
  subst hg
  rfl

/-- A rotated lane from the lanes and tables it reads. -/
theorem turned_of {x : Vec Ideal S128x1024 .f32} {cs sn : Vec Ideal S128x128 .f32} {a : Arg} {b : Fin 4} {n : Fin 65} {h : Fin 8}
    (hx : ∀ i d, x (ix2 i d) = padded a b (pos n i) d) (hc : ∀ i d, cs (ix2 i d) = cosT (pos n i) d)
    (hs : ∀ i d, sn (ix2 i d) = sinT (pos n i) d) (i d : Fin 128) : Stage.turned x cs sn h i d = turn a b h (pos n i) d := by
  simp only [Stage.turned, Stage.rot, Stage.lanes, hx, hc, hs, turn, lane]

/-- The kernel's result at row `i` of chunk `n`, head `h`, lane `e`. -/
theorem kernel_value (b : Fin 4) (n : Fin 65) (i : Fin 128) (h : Fin 8) (e : Fin 128) :
    (Value.G6 m c : Vec Ideal S33280x1024 .bf16) (ix2 (row b (pos n i)) (col h e)) =
      value Body.maskK Body.qdecK Body.kdecK Body.decK (m ((c.tc).loc main_arg0)) (m ((c.tc).loc main_arg1))
        (m ((c.tc).loc main_arg2)) (m ((c.tc).loc main_arg3)) b h n i e := by
  rw [G6_at, outs m c b n.val n.isLt]
  have B0 := blk_0 m c b n
  have B1 := blk_1 m c b n
  have B2 := blk_2 m c b n
  have B3 := blk_3 m c b n
  have B4 := blk_4 m c b n
  have B5 := blk_5 m c b n
  have S := stK_eq m c b h n.val (by omega)
  show Stage.given _ _ _ _ _ _ _ _ _ (Body.headOf (ix2 i (col h e))) i (Body.laneOf (ix2 i (col h e))) = _
  rw [Body.headOf_col, Body.laneOf_col]
  exact given_of (turned_of B0 B4 B5) (fun i d => congrArg (· * Stage.kscale) (turned_of B1 B4 B5 i d)) (fun i d => B2 i (col h d))
    (fun _ _ => rfl) (fun _ _ => rfl) S (B3 i (col h e))

end Cert.Proof.Chunk
end
-- ==== Proof.Retention.lean ====
/-
  The claims about the retention: the reference leaves its arguments, the kernel's named scalars, and the two programs'
  equal results.
-/
module
public import proofs.«01_k».proof.Proof.After
public import proofs.«01_k».proof.Proof.Chunk
public import Idealize.ShloMosaic.Adequacy
@[expose] public section
noncomputable section
open Idealize.ShloMosaic Idealize.ShloMosaic.TcCoe Idealize.SL.Sem Idealize.ShloMosaic.StableHlo Cert.ReferenceIdeal Cert.ReferenceIdeal.Gen
open Cert.Proof.Model Cert.ReferenceIdeal.Value Cert.Proof.Const
open Cert.Proof.Stage (col)
namespace Cert.Proof.Retention

/-- The arguments' references. -/
abbrev args : List (Ref sig .tc) := [main_arg0, main_arg1, main_arg2, main_arg3]

/-- What runs before the loop leaves the arguments. -/
theorem before_args (V : Valuation τ sig (Elt Ideal)) : ∀ r ∈ args, afterL preI V (Proc.devRef .tc r) = V (Proc.devRef .tc r) := by
  intro r hr
  fin_cases hr <;> simp only [afterL_cons, afterL_nil] <;> after_reads_simp

/-- What runs after the loop leaves the arguments. -/
theorem after_args (V : Valuation τ sig (Elt Ideal)) : ∀ r ∈ args, afterL postI V (Proc.devRef .tc r) = V (Proc.devRef .tc r) := by
  intro r hr
  fin_cases hr <;> simp only [afterL_cons, afterL_nil] <;> after_reads_simp

variable (m : (ℓ : Loc nD τ sig) → Buf (Elt Ideal) ℓ) (c : Dev nD)

/-- The whole program leaves the arguments. -/
theorem final_args (r : Ref sig .tc) (hr : r ∈ args) :
    finalContents condOps preI bodyI postI 65 m c (Proc.devRef .tc r) = m ((c.tc : Thread nD τ).loc r) := by
  have h0 : r ∉ condOps_W := by revert r; decide +kernel
  have h1 : r ∉ Loop.tripW := by revert r; decide +kernel
  refine (after_args _ r hr).trans ((after_of_writes_sub _ _ condOps_writes h0).trans ((Loop.kept m c r h1 65).trans ((before_args _ r hr).trans ?_)))
  rfl

/-- The reference runs, leaves its arguments, and every counter is at zero. -/
theorem quiescent_reference : Cert.quiescent_ReferenceIdeal := fun m ρ _ =>
  (θ_run Cert.ReferenceIdeal.defs _ _).mono (fun r h => ⟨fun c =>
      ⟨(h c main_arg0 rfl).trans (final_args m c _ (by decide +kernel)), (h c main_arg1 rfl).trans (final_args m c _ (by decide +kernel)),
        (h c main_arg2 rfl).trans (final_args m c _ (by decide +kernel)), (h c main_arg3 rfl).trans (final_args m c _ (by decide +kernel))⟩,
      Idealize.ShloMosaic.sem_eq_zero_of_no_sems (by decide) r.2⟩) (run_fold m ρ)

/-- The kernel's scalars, each at its name's value. -/
theorem preserves : Cert.preserves_Kernel_KernelIdeal := by
  refine ⟨?_, ?_, ?_, ?_, ?_, ?_, ?_, ?_, ?_, ?_, ?_, ?_, ?_, ?_, ?_, ?_⟩ <;> exact IdealRules.named_const.statement _ _ _ _ _ rfl

/-- Every index of the result is a row of a chunk and a lane of a head. -/
theorem index_parts (x : (S33280x1024 : Shape).Idx) : ∃ (b : Fin 4) (n : Fin 65) (i : Fin 128) (h : Fin 8) (e : Fin 128),
    x = ix2 (row b (pos n i)) (col h e) := by
  obtain ⟨R, C, rfl⟩ : ∃ (R : Fin 33280) (C : Fin 1024), x = ix2 R C := ⟨x 0, x 1, (ix2_eta x).symm⟩
  have hR := R.isLt
  have hC := C.isLt
  refine ⟨⟨R.val / 8320, by omega⟩, ⟨R.val % 8320 / 128, by omega⟩, ⟨R.val % 8320 % 128, by omega⟩, ⟨C.val / 128, by omega⟩, ⟨C.val % 128, by omega⟩, ?_⟩
  refine congrArg₂ ix2 (Fin.ext ?_) (Fin.ext ?_)
  · simp only [row, pos]; omega
  · simp only [col]; omega

/-- The two programs leave the same array. -/
theorem results (mk : (ℓ : Loc Cert.KernelIdeal.nD Cert.KernelIdeal.τ Cert.KernelIdeal.sig) → Buf (Elt Ideal) ℓ)
    (h0 : m ((c.tc : Thread nD τ).loc main_arg0) = mk ((c.tc : Thread Cert.KernelIdeal.nD Cert.KernelIdeal.τ).loc Cert.KernelIdeal.main_arg0))
    (h1 : m ((c.tc : Thread nD τ).loc main_arg1) = mk ((c.tc : Thread Cert.KernelIdeal.nD Cert.KernelIdeal.τ).loc Cert.KernelIdeal.main_arg1))
    (h2 : m ((c.tc : Thread nD τ).loc main_arg2) = mk ((c.tc : Thread Cert.KernelIdeal.nD Cert.KernelIdeal.τ).loc Cert.KernelIdeal.main_arg2))
    (h3 : m ((c.tc : Thread nD τ).loc main_arg3) = mk ((c.tc : Thread Cert.KernelIdeal.nD Cert.KernelIdeal.τ).loc Cert.KernelIdeal.main_arg3)) :
    (finalContents condOps preI bodyI postI 65 m c (Proc.devRef .tc main_v158) : Vec Ideal S33280x1024 .bf16) =
      (Cert.KernelIdeal.Value.G6 mk c : Vec Ideal S33280x1024 .bf16) := by
  funext x
  obtain ⟨b, n, i, h, e, rfl⟩ := index_parts x
  refine (After.reference_value m c b n i h e).trans (Eq.trans ?_ (Chunk.kernel_value mk c b n i h e).symm)
  rw [mask_eq, qdec_eq, kdec_eq, show Body.decK = decR from funext decK_eq]
  show value maskR qdecR kdecR decR (m ((c.tc : Thread nD τ).loc main_arg0)) (m ((c.tc : Thread nD τ).loc main_arg1))
    (m ((c.tc : Thread nD τ).loc main_arg2)) (m ((c.tc : Thread nD τ).loc main_arg3)) b h n i e = _
  rw [h0, h1, h2, h3]

/-- From equal arguments both programs run and leave equal results. -/
theorem algebraic : Cert.algebraic_KernelIdeal_ReferenceIdeal := by
  intro m g m' g' _ hagree
  refine ⟨fun c => Cert.KernelIdeal.Value.G6 m c, Cert.KernelIdeal.Value.run (F := Ideal) m g, ?_⟩
  refine (θ_run Cert.ReferenceIdeal.defs _ _).mono (fun r h c => ⟨(h c main_v158 rfl).trans ?_,
      (h c main_arg0 rfl).trans (final_args m' c _ (by decide +kernel)), (h c main_arg1 rfl).trans (final_args m' c _ (by decide +kernel)),
      (h c main_arg2 rfl).trans (final_args m' c _ (by decide +kernel)), (h c main_arg3 rfl).trans (final_args m' c _ (by decide +kernel))⟩) (run_fold m' g')
  exact results m' c m (hagree c).1 (hagree c).2.1 (hagree c).2.2.1 (hagree c).2.2.2

end Cert.Proof.Retention
end
-- ==== Proof.Dense.lean ====
/-
  What the dense calls compute, as plain sums over the extended reals.
-/
module

public import proofs.«01_k».proof.Defs
public import Idealize.ShloMosaic.Lib.Pointwise
public import Idealize.ShloMosaic.PureOps.Ideal

@[expose] public section

noncomputable section

open Idealize.ShloMosaic

namespace Cert.Proof.Dense

/-- Numbers at the places of an array. -/
abbrev Arr (S : Shape) : Type := S.Idx → EReal

/-- Row `r` of an array against column `j` of the first matrix of a stack. -/
def dot {R K D N : ℕ} (x : Arr ⟨2, ![R, K]⟩) (w : Arr ⟨3, ![D + 1, K, N]⟩) (r : Fin R) (j : Fin N) : EReal :=
  ∑ k : Fin K, x (ix2 r k) * w (ix3 (0 : Fin (D + 1)) k j)

/-- Column `j` of the `n` columns from `off` on. -/
def shift {n : ℕ} (N off : ℕ) (h : off + n ≤ N) (j : Fin n) : Fin N := ⟨off + j.val, by omega⟩

/-- An array times `n` columns of the first matrix of a stack. -/
def proj (n N off : ℕ) (h : off + n ≤ N) {R K D : ℕ} (x : Arr ⟨2, ![R, K]⟩) (w : Arr ⟨3, ![D + 1, K, N]⟩) : Arr ⟨2, ![R, n]⟩ :=
  fun y => dot x w (y 0) (shift N off h (y 1))

/-- The sigmoid as both programs write it. -/
def sigm (g : EReal) : EReal := Ideal.div 1 (1 + Ideal.exp (0 - g))

/-- One gated branch. -/
def gated (g b : EReal) : EReal := sigm g * b

/-- Three gated branches added. -/
def sum3 (a b c : EReal) : EReal := a + b + c

/-- Row `r` of an array. -/
def row {R N : ℕ} (x : Arr ⟨2, ![R, N]⟩) (r : Fin R) : Fin N → EReal := fun k => x (ix2 r k)

/-- The factor a row is scaled by: one over the root of its mean square plus the rounded 1e-6. -/
def rms {N : ℕ} (v : Fin N → EReal) : EReal :=
  Ideal.rsqrt (Ideal.div (∑ k : Fin N, v k * v k) (Ideal.ofBits .f32 0x45000000#32) + Ideal.ofBits .f32 0x358637BD#32)

/-- A row scaled to mean square one, times weights. -/
def normed {N : ℕ} (v n : Fin N → EReal) (j : Fin N) : EReal := v j * rms v * n j

/-- A row added to a normed row. -/
def resid {N : ℕ} (h v n : Fin N → EReal) (j : Fin N) : EReal := h j + normed v n j

/-- Products of equal rows and equal columns are equal. -/
theorem dot_congr {R R' K D D' N N' : ℕ} {x : Arr ⟨2, ![R, K]⟩} {x' : Arr ⟨2, ![R', K]⟩} {w : Arr ⟨3, ![D + 1, K, N]⟩}
    {w' : Arr ⟨3, ![D' + 1, K, N']⟩} {r : Fin R} {r' : Fin R'} {j : Fin N} {j' : Fin N'} (hx : ∀ k, x (ix2 r k) = x' (ix2 r' k))
    (hw : ∀ k, w (ix3 0 k j) = w' (ix3 0 k j')) : dot x w r j = dot x' w' r' j' :=
  Finset.sum_congr rfl fun k _ => congrArg₂ (fun a b : EReal => a * b) (hx k) (hw k)

/-- The normed row from equal rows and weights. -/
theorem normed_congr {N : ℕ} {v v' n n' : Fin N → EReal} {j j' : Fin N} (hv : ∀ k, v k = v' k) (hn : ∀ k, n k = n' k) (hj : j = j') :
    normed v n j = normed v' n' j' := by
  rw [funext hv, funext hn, hj]

/-- The sum with a normed row from equal rows and weights. -/
theorem resid_congr {N : ℕ} {h h' v v' n n' : Fin N → EReal} {j j' : Fin N} (hh : ∀ k, h k = h' k) (hv : ∀ k, v k = v' k)
    (hn : ∀ k, n k = n' k) (hj : j = j') : resid h v n j = resid h' v' n' j' := by
  rw [funext hh, funext hv, funext hn, hj]

end Cert.Proof.Dense
end
-- ==== Proof.Up.lean ====
module

public import proofs.«01_k».proof.Proof.Dense
public import proofs.«01_k».proof.Proof.Gen.Kernel2Ideal.Value
public import proofs.«01_k».proof.Proof.Gen.Reference2Ideal.Run
public import Idealize.ShloMosaic.Lib.Pipeline.ValueKit.Point

/-! The first feed-forward product, `_ffn_up`: the rows times the gate's and the up weights, the gate's product taken through
    its sigmoid, product by product. The weights are copied once per column block and kept across the row blocks. -/

@[expose] public section
noncomputable section
open Idealize.ShloMosaic Idealize.ShloMosaic.TcCoe Idealize.SL.Sem Cert.Kernel2Ideal Cert.Kernel2Ideal.Gen
open Cert.Proof.Dense
namespace Cert.Proof.Up

/-- The gate through its sigmoid, times the other product. -/
def swish (g u : EReal) : EReal := g * sigm g * u

/-- One half's rows: both products, the gate's through `silu`. -/
theorem pay4_at (x : Vec Ideal S832x2048 .bf16) (wg wu : Vec Ideal S2048x512 .bf16) (i : Fin 832) (j : Fin 512) :
    k0_pay4 (F := Ideal) x wg wu (ix2 i j) = swish (∑ k, x (ix2 i k) * wg (ix2 k j)) (∑ k, x (ix2 i k) * wu (ix2 k j)) := by
  pointwise [k0_pay4, swish, sigm]

/-- The other half's rows. -/
theorem pay1_at (x : Vec Ideal S832x2048 .bf16) (wg wu : Vec Ideal S2048x512 .bf16) (i : Fin 832) (j : Fin 512) :
    k0_pay1 (F := Ideal) (k0_pay5 x wg) (k0_pay6 x wu) (k0_pay7 x wg) k0_pay8 (ix2 i j) =
      swish (∑ k, x (ix2 i k) * wg (ix2 k j)) (∑ k, x (ix2 i k) * wu (ix2 k j)) := by
  pointwise [k0_pay1, k0_pay5, k0_pay6, k0_pay7, k0_pay8, swish, sigm]

/-- The gate weights' copy. -/
theorem pay2_at (w : Vec Ideal S1x2048x512 .f32) (k : Fin 2048) (j : Fin 512) : k0_pay2 (F := Ideal) w (ix2 k j) = w (ix3 0 k j) := by
  pointwise [k0_pay2]

/-- The up weights' copy. -/
theorem pay3_at (w : Vec Ideal S1x2048x512 .f32) (k : Fin 2048) (j : Fin 512) : k0_pay3 (F := Ideal) w (ix2 k j) = w (ix3 0 k j) := by
  pointwise [k0_pay3]

/-- A row of the lower half. -/
def lower (i : Fin 832) : Fin 1664 := ⟨i.val, by omega⟩

/-- A row of the upper half. -/
def upper (i : Fin 832) : Fin 1664 := ⟨832 + i.val, by omega⟩

/-- Reading the lower half of the rows. -/
theorem ld_lower {e : EltTy} {K : ℕ} (X : (⟨2, ![1664, K]⟩ : Shape).Idx → Elt Ideal e) (inb) (i : Fin 832) (k : Fin K) :
    View.ld X (Rect.unit (s := ⟨2, ![1664, K]⟩) ![0, 0] ![832, K] inb) (ix2 i k) = X (ix2 (lower i) k) := by
  refine View.ld_unit_apply_of X _ _ _ _ _ fun a => ?_
  fin_cases a
  · exact (Nat.zero_add _).symm
  · exact (Nat.zero_add _).symm

/-- Reading the upper half of the rows. -/
theorem ld_upper {e : EltTy} {K : ℕ} (X : (⟨2, ![1664, K]⟩ : Shape).Idx → Elt Ideal e) (inb) (i : Fin 832) (k : Fin K) :
    View.ld X (Rect.unit (s := ⟨2, ![1664, K]⟩) ![832, 0] ![832, K] inb) (ix2 i k) = X (ix2 (upper i) k) := by
  refine View.ld_unit_apply_of X _ _ _ _ _ fun a => ?_
  fin_cases a
  · rfl
  · exact (Nat.zero_add _).symm

/-- Two stores of half the rows each, read back: one function of the whole block. -/
theorem halves {e : EltTy} (G : S1664x512.Idx → Elt Ideal e) (hi lo : S832x512.Idx → Elt Ideal e) (inbhi inblo)
    (hhi : ∀ i j, hi (ix2 i j) = G (ix2 (upper i) j)) (hlo : ∀ i j, lo (ix2 i j) = G (ix2 (lower i) j)) (y : S1664x512.Idx) :
    View.canon [⟨Rect.unit (s := S1664x512) ![832, 0] ![832, 512] inbhi, hi⟩, ⟨Rect.unit (s := S1664x512) ![0, 0] ![832, 512] inblo, lo⟩] y = G y := by
  refine View.canon_apply_of_pieces (Val := Elt Ideal) (e := e) G _ ?_ y (View.cover_of_tiled (Val := Elt Ideal) (e := e)
    [⟨Rect.unit (s := S1664x512) ![832, 0] ![832, 512] inbhi, hi⟩, ⟨Rect.unit (s := S1664x512) ![0, 0] ![832, 512] inblo, lo⟩] S832x512.size (by rfl) y)
  intro p hp z
  simp only [List.mem_cons, List.not_mem_nil, or_false] at hp
  rcases hp with rfl | rfl
  · obtain ⟨i, j, rfl⟩ : ∃ (i : Fin 832) (j : Fin 512), z = ix2 i j := ⟨z 0, z 1, (ix2_eta z).symm⟩
    exact (hhi i j).trans (ld_upper G inbhi i j).symm
  · obtain ⟨i, j, rfl⟩ : ∃ (i : Fin 832) (j : Fin 512), z = ix2 i j := ⟨z 0, z 1, (ix2_eta z).symm⟩
    exact (hlo i j).trans (ld_lower G inblo i j).symm

variable (m : (ℓ : Loc nD τ sig) → Buf (Elt Ideal) ℓ) (c : Dev nD)

/-- The blocks' places. -/
theorem places : ∀ t : Fin grid0.N, win0_0.index t = ![t.val % 20, 0] ∧ win0_1.index t = ![0, 0, t.val / 20] ∧ win0_2.index t = ![0, 0, t.val / 20] ∧
    win0_3.index t = ![t.val % 20, t.val / 20] := by decide +kernel

/-- The gate weights' block at a point. -/
theorem gate_block (t : Fin cfg0.N) (k : Fin 2048) (j : Fin 512) (J : Fin 5632) (hJ : J.val = t.val / 20 * 512 + j.val) :
    (iblk m c 1 t : Vec Ideal S1x2048x512 .f32) (ix3 0 k j) = (m ((c.tc : Thread nD τ).loc main_arg1) : Vec Ideal S4x2048x5632 .f32) (ix3 0 k J) := by
  obtain ⟨h0, h1, h2, h3⟩ := places t
  blk_ext! [iblk, V, h1, hJ]

/-- The up weights' block at a point. -/
theorem up_block (t : Fin cfg0.N) (k : Fin 2048) (j : Fin 512) (J : Fin 5632) (hJ : J.val = t.val / 20 * 512 + j.val) :
    (iblk m c 2 t : Vec Ideal S1x2048x512 .f32) (ix3 0 k j) = (m ((c.tc : Thread nD τ).loc main_arg2) : Vec Ideal S4x2048x5632 .f32) (ix3 0 k J) := by
  obtain ⟨h0, h1, h2, h3⟩ := places t
  blk_ext! [iblk, V, h2, hJ]

/-- The kept copies at a point are the weights of its column block. -/
theorem kept (n : ℕ) : ∀ (hn : n < cfg0.N) (k : Fin 2048) (j : Fin 512) (J : Fin 5632), J.val = n / 20 * 512 + j.val →
    (outsAt0 m c n hn).2.1 (ix2 k j) = (m ((c.tc : Thread nD τ).loc main_arg1) : Vec Ideal S4x2048x5632 .f32) (ix3 0 k J) ∧
    (outsAt0 m c n hn).2.2 (ix2 k j) = (m ((c.tc : Thread nD τ).loc main_arg2) : Vec Ideal S4x2048x5632 .f32) (ix3 0 k J) := by
  induction n using Nat.strong_induction_on with
  | _ n ih =>
    intro hn k j J hJ
    by_cases h0 : n % 20 = 0
    · constructor
      · rw [outsAt0_A m c ⟨n, hn⟩ h0]
        dsimp only
        frame_out
        exact (pay2_at _ k j).trans (gate_block m c ⟨n, hn⟩ k j J hJ)
      · rw [outsAt0_A m c ⟨n, hn⟩ h0]
        dsimp only
        frame_out
        exact (pay3_at _ k j).trans (up_block m c ⟨n, hn⟩ k j J hJ)
    · have h := ih (n - 1) (by omega) (by omega) k j J (by omega)
      rw [outsAt0_B m c ⟨n, hn⟩ h0]
      exact h

/-- One entry of the block a point leaves, over the rows' block and the arrays of weights. -/
def entry {R : ℕ} (x : Arr ⟨2, ![R, 2048]⟩) (wg wu : Arr S4x2048x5632) (i : Fin R) (J : Fin 5632) : EReal := swish (dot (D := 3) x wg i J) (dot (D := 3) x wu i J)

/-- Equal rows and columns give equal entries. -/
theorem entry_of {x : S832x2048.Idx → EReal} {X : S1664x2048.Idx → EReal} {g u : S2048x512.Idx → EReal} {wg wu : Arr S4x2048x5632} {i : Fin 832} {I : Fin 1664}
    {j : Fin 512} {J : Fin 5632} (hx : ∀ k, x (ix2 i k) = X (ix2 I k)) (hg : ∀ k, g (ix2 k j) = wg (ix3 0 k J)) (hu : ∀ k, u (ix2 k j) = wu (ix3 0 k J)) :
    swish (∑ k, x (ix2 i k) * g (ix2 k j)) (∑ k, x (ix2 i k) * u (ix2 k j)) = entry (R := 1664) X wg wu I J :=
  congrArg₂ swish (Finset.sum_congr rfl fun k _ => congrArg₂ (fun a b : EReal => a * b) (hx k) (hg k))
    (Finset.sum_congr rfl fun k _ => congrArg₂ (fun a b : EReal => a * b) (hx k) (hu k))

/-- The column of the arrays a column of a block stands for. -/
def col (t : Fin cfg0.N) (j : Fin 512) : Fin 5632 := ⟨t.val / 20 * 512 + j.val, by
  have h : t.val < 220 := t.isLt
  omega⟩

/-- What a point leaves in the result's block. -/
theorem block (t : Fin cfg0.N) (i : Fin 1664) (j : Fin 512) :
    (outsAt0 m c t.val t.isLt).1 (ix2 i j) =
      entry (R := 1664) (iblk m c 0 t) (m ((c.tc : Thread nD τ).loc main_arg1)) (m ((c.tc : Thread nD τ).loc main_arg2)) i (col t j) := by
  by_cases h0 : t.val % 20 = 0
  · rw [outsAt0_A m c t h0]
    dsimp only
    frame_out
    refine halves (e := .bf16) (fun y : S1664x512.Idx =>
      entry (R := 1664) (iblk m c 0 t) (m ((c.tc : Thread nD τ).loc main_arg1)) (m ((c.tc : Thread nD τ).loc main_arg2)) (y 0) (col t (y 1))) _ _ _ _
      (fun i j => ?_) (fun i j => ?_) (ix2 i j)
    · exact (pay1_at _ _ _ i j).trans (entry_of (fun k => ld_upper _ _ i k) (fun k => (pay2_at _ k j).trans (gate_block m c t k j _ rfl))
        fun k => (pay3_at _ k j).trans (up_block m c t k j _ rfl))
    · exact (pay4_at _ _ _ i j).trans (entry_of (fun k => ld_lower _ _ i k) (fun k => (pay2_at _ k j).trans (gate_block m c t k j _ rfl))
        fun k => (pay3_at _ k j).trans (up_block m c t k j _ rfl))
  · have hk := fun k j => kept m c (t.val - 1) (Nat.lt_of_le_of_lt (Nat.sub_le _ _) t.isLt) k j (col t j) (by dsimp only [col]; omega)
    rw [outsAt0_B m c t h0]
    dsimp only
    frame_out
    refine halves (e := .bf16) (fun y : S1664x512.Idx =>
      entry (R := 1664) (iblk m c 0 t) (m ((c.tc : Thread nD τ).loc main_arg1)) (m ((c.tc : Thread nD τ).loc main_arg2)) (y 0) (col t (y 1))) _ _ _ _
      (fun i j => ?_) (fun i j => ?_) (ix2 i j)
    · exact (pay1_at _ _ _ i j).trans (entry_of (fun k => ld_upper _ _ i k) (fun k => (congrFun (Memref.IsWhole.read_unread _ _) _).trans (hk k j).1)
        fun k => (congrFun (Memref.IsWhole.read_unread _ _) _).trans (hk k j).2)
    · exact (pay4_at _ _ _ i j).trans (entry_of (fun k => ld_lower _ _ i k) (fun k => (congrFun (Memref.IsWhole.read_unread _ _) _).trans (hk k j).1)
        fun k => (congrFun (Memref.IsWhole.read_unread _ _) _).trans (hk k j).2)

/-- What the kernel leaves, over the arrays. -/
def whole (a0 : Arr S33280x2048) (a1 a2 : Arr S4x2048x5632) : Arr S33280x5632 := fun y => entry a0 a1 a2 (y 0) (y 1)

/-- The array the kernel leaves. -/
theorem final : (dats m 0 c).arrAt 3 cfg0.N =
    (whole (m ((c.tc : Thread nD τ).loc main_arg0)) (m ((c.tc : Thread nD τ).loc main_arg1)) (m ((c.tc : Thread nD τ).loc main_arg2)) : Vec Ideal S33280x5632 .bf16) := by
  refine (dats m 0 c).arrAt_eq_of_covers 3 _ (by decide +kernel) fun t hf y => ?_
  obtain ⟨h0, h1, h2, h3⟩ := places t
  blk_simp
  rw [after0_3]
  obtain ⟨i, j, rfl⟩ : ∃ (i : Fin 1664) (j : Fin 512), y = ix2 i j := ⟨y 0, y 1, (ix2_eta y).symm⟩
  refine (block m c t i j).trans ?_
  unfold whole entry
  refine congrArg₂ swish (dot_congr (fun k => ?_) fun k => ?_) (dot_congr (fun k => ?_) fun k => ?_)
  · blk_ext! [iblk, V, h0, h3]
  · blk_ext [h3, col]
  · blk_ext! [iblk, V, h0, h3]
  · blk_ext [h3, col]

/-- The reference runs, leaves its arguments, and every counter is at zero. -/
theorem quiescent_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- From equal arguments both programs run and leave equal results. -/
theorem algebraic : Cert.algebraic_Kernel2Ideal_Reference2Ideal := by
  intro m g m' g' _ hagree
  refine ⟨fun c => (dats m 0 c).arrAt 3 cfg0.N, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨e0, e1, e2⟩ := hagree c
  rw [e0, e1, e2]
  refine Eq.trans ?_ (final m c).symm
  funext y
  obtain ⟨i, j, rfl⟩ : ∃ (i : Fin 33280) (j : Fin 5632), y = ix2 i j := ⟨y 0, y 1, (ix2_eta y).symm⟩
  pointwise [whole, entry, swish, sigm, dot]
  simp only [zero_sub]

end Cert.Proof.Up
end
-- ==== Proof.Merge.lean ====
/-
  The merge of the branches: what the kernel's body computes from its blocks, and that the blocks written back are the
  reference's array.
-/
module

public import proofs.«01_k».proof.Proof.Dense
public import proofs.«01_k».proof.Proof.Gen.Kernel3Ideal.Value
public import proofs.«01_k».proof.Proof.Gen.Reference3Ideal.Run
public import Idealize.ShloMosaic.Lib.Pipeline.ValueKit.Point

@[expose] public section
noncomputable section
open Idealize.ShloMosaic Idealize.ShloMosaic.TcCoe Idealize.SL.Sem Cert.Kernel3Ideal Cert.Kernel3Ideal.Gen
open Cert.Proof.Dense
namespace Cert.Proof.Merge

/-- A gated product in one expression. -/
theorem pay2_at (x : Vec Ideal S640x2048 .bf16) (g : Vec Ideal S1x2048x256 .bf16) (y : Vec Ideal S640x1024 .bf16) (w : Vec Ideal S1x1024x256 .bf16)
    (i : Fin 640) (j : Fin 256) : k0_pay2 (F := Ideal) x g y w (ix2 i j) = gated (dot (D := 0) x g i j) (dot (D := 0) y w i j) := by
  pointwise [k0_pay2, gated, sigm, dot]

/-- A gate through its sigmoid. -/
theorem pay3_at (x : Vec Ideal S640x2048 .bf16) (g : Vec Ideal S1x2048x256 .bf16) (i : Fin 640) (j : Fin 256) :
    k0_pay3 (F := Ideal) x g (ix2 i j) = sigm (dot (D := 0) x g i j) := by
  pointwise [k0_pay3, sigm, dot]

/-- The sum of three gated products, the first and the second gate handed over. -/
theorem pay4_at (u v : Vec Ideal S640x256 .f32) (y : Vec Ideal S640x1024 .bf16) (w : Vec Ideal S1x1024x256 .bf16)
    (x : Vec Ideal S640x2048 .bf16) (g : Vec Ideal S1x2048x256 .bf16) (z : Vec Ideal S640x2048 .bf16) (w' : Vec Ideal S1x2048x256 .bf16)
    (i : Fin 640) (j : Fin 256) (a s : EReal) (hu : u (ix2 i j) = a) (hv : v (ix2 i j) = s) :
    k0_pay4 (F := Ideal) u v y w x g z w' (ix2 i j) = sum3 a (s * dot (D := 0) y w i j) (gated (dot (D := 0) x g i j) (dot (D := 0) z w' i j)) := by
  pointwise [k0_pay4, sum3, gated, sigm, dot]
  rw [hu, hv]

/-- A sigmoid's denominator. -/
theorem pay5_at (x : Vec Ideal S640x2048 .bf16) (g : Vec Ideal S1x2048x256 .bf16) (i : Fin 640) (j : Fin 256) :
    k0_pay5 (F := Ideal) x g (ix2 i j) = 1 + Ideal.exp (0 - dot (D := 0) x g i j) := by
  pointwise [k0_pay5, dot]

/-- A sigmoid's exponential. -/
theorem pay7_at (x : Vec Ideal S640x2048 .bf16) (g : Vec Ideal S1x2048x256 .bf16) (i : Fin 640) (j : Fin 256) :
    k0_pay7 (F := Ideal) x g (ix2 i j) = Ideal.exp (0 - dot (D := 0) x g i j) := by
  pointwise [k0_pay7, dot]

/-- The sum of two gated products, the first one's denominator handed over. -/
theorem pay6_at (u : Vec Ideal S640x256 .f32) (y : Vec Ideal S640x1024 .bf16) (w : Vec Ideal S1x1024x256 .bf16) (x : Vec Ideal S640x2048 .bf16)
    (g : Vec Ideal S1x2048x256 .bf16) (z : Vec Ideal S640x1024 .bf16) (w' : Vec Ideal S1x1024x256 .bf16) (i : Fin 640) (j : Fin 256)
    (a : EReal) (hu : u (ix2 i j) = 1 + Ideal.exp (0 - a)) :
    k0_pay6 (F := Ideal) u (Scalar.ofBits .f32 0x3F800000#32) y w x g z w' (ix2 i j) =
      gated a (dot (D := 0) y w i j) + gated (dot (D := 0) x g i j) (dot (D := 0) z w' i j) := by
  pointwise [k0_pay6, gated, sigm, dot]
  rw [hu]

/-- A third gated product added, its gate's exponential handed over. -/
theorem pay1_at (u v : Vec Ideal S640x256 .f32) (z : Vec Ideal S640x2048 .bf16) (w : Vec Ideal S1x2048x256 .bf16) (i : Fin 640) (j : Fin 256)
    (a b : EReal) (hu : u (ix2 i j) = a) (hv : v (ix2 i j) = Ideal.exp (0 - b)) :
    k0_pay1 (F := Ideal) u v (Scalar.ofBits .f32 0x3F800000#32) z w (ix2 i j) = a + gated b (dot (D := 0) z w i j) := by
  pointwise [k0_pay1, gated, sigm, dot]
  rw [hu, hv]

/-- The blocks' places. -/
theorem places : ∀ t : Fin grid0.N,
    (win0_0.index t = ![win0_10.index t (0 : Fin 2), 0] ∧ win0_1.index t = ![win0_10.index t (0 : Fin 2), 0] ∧
      win0_2.index t = ![win0_10.index t (0 : Fin 2), 0] ∧ win0_3.index t = ![win0_10.index t (0 : Fin 2), 0]) ∧
    (win0_4.index t = ![0, 0, 36 + win0_10.index t (1 : Fin 2)] ∧ win0_5.index t = ![0, 0, 44 + win0_10.index t (1 : Fin 2)] ∧
      win0_6.index t = ![0, 0, 52 + win0_10.index t (1 : Fin 2)]) ∧
    (win0_7.index t = ![0, 0, win0_10.index t (1 : Fin 2)] ∧ win0_8.index t = ![0, 0, win0_10.index t (1 : Fin 2)] ∧
      win0_9.index t = ![0, 0, win0_10.index t (1 : Fin 2)]) := by decide +kernel

/-- The merge at a row and a column, from the gates' columns and the branches' columns. -/
def merged {R : ℕ} {N M D E : ℕ} (x : Arr ⟨2, ![R, 2048]⟩) (ya yb : Arr ⟨2, ![R, 1024]⟩) (yc : Arr ⟨2, ![R, 2048]⟩)
    (ga gb gc : Arr ⟨3, ![D + 1, 2048, N]⟩) (wa wb : Arr ⟨3, ![E + 1, 1024, M]⟩) (wc : Arr ⟨3, ![E + 1, 2048, M]⟩)
    (i : Fin R) (ja jb jc : Fin N) (j : Fin M) : EReal :=
  sum3 (gated (dot x ga i ja) (dot ya wa i j)) (gated (dot x gb i jb) (dot yb wb i j)) (gated (dot x gc i jc) (dot yc wc i j))

variable (m : (ℓ : Loc nD τ sig) → Buf (Elt Ideal) ℓ) (c : Dev nD)

/-- What a point leaves in its block: the merge of its blocks. -/
theorem block_value (x0 : Vec Ideal S1280x2048 .bf16) (x1 x2 : Vec Ideal S1280x1024 .bf16) (x3 : Vec Ideal S1280x2048 .bf16)
    (x4 x5 x6 : Vec Ideal S1x2048x256 .bf16) (x7 x8 : Vec Ideal S1x1024x256 .bf16) (x9 : Vec Ideal S1x2048x256 .bf16) (y : S1280x256.Idx) :
    out0_10 (F := Ideal) x0 x1 x2 x3 x4 x5 x6 x7 x8 x9 y = merged (D := 0) (E := 0) x0 x1 x2 x3 x4 x5 x6 x7 x8 x9 (y 0) (y 1) (y 1) (y 1) (y 1) := by
  unfold out0_10
  refine View.canon_apply_of_pieces (Val := Elt Ideal) (e := .bf16) (fun y : S1280x256.Idx => merged (D := 0) (E := 0) x0 x1 x2 x3 x4 x5 x6 x7 x8 x9 (y 0) (y 1) (y 1) (y 1) (y 1)) _ ?_ y (cover0_10 _ _ y)
  intro p hp z
  simp only [List.mem_cons, List.not_mem_nil, or_false] at hp
  rcases hp with rfl | rfl
  · obtain ⟨i, j, rfl⟩ : ∃ (i : Fin 640) (j : Fin 256), z = ix2 i j := ⟨z 0, z 1, (ix2_eta z).symm⟩
    refine (pay1_at _ _ _ _ i j _ _ (pay6_at _ _ _ _ _ _ _ i j _ (pay5_at _ _ i j)) (pay7_at _ _ i j)).trans ?_
    dsimp only
    unfold merged sum3 gated dot
    blk_point []
    all_goals
      rw [View.ld_apply]
      blk_ext [Rect.idx_unit_val]
  · obtain ⟨i, j, rfl⟩ : ∃ (i : Fin 640) (j : Fin 256), z = ix2 i j := ⟨z 0, z 1, (ix2_eta z).symm⟩
    refine (pay4_at _ _ _ _ _ _ _ _ i j _ _ (pay2_at _ _ _ _ i j) (pay3_at _ _ i j)).trans ?_
    dsimp only
    unfold merged sum3 gated dot
    blk_point []
    all_goals
      rw [View.ld_apply]
      blk_ext [Rect.idx_unit_val]

/-- The merge of the arrays. -/
def whole (a0 : Arr S33280x2048) (a1 a2 : Arr S33280x1024) (a3 : Arr S33280x2048) (a4 : Arr S4x2048x19712) (a5 a6 : Arr S4x1024x2048)
    (a7 : Arr S4x2048x2048) : Arr S33280x2048 := fun y =>
  merged (D := 3) (E := 3) a0 a1 a2 a3 a4 a4 a4 a5 a6 a7 (y 0) (shift (n := 2048) 19712 9216 (by omega) (y 1)) (shift (n := 2048) 19712 11264 (by omega) (y 1))
    (shift (n := 2048) 19712 13312 (by omega) (y 1)) (y 1)

/-- What the kernel leaves: the merge of its arguments. -/
theorem final : (dats m 0 c).arrAt 10 cfg0.N =
    (whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) : Vec Ideal S33280x2048 .bf16) := by
  refine (dats m 0 c).arrAt_eq_of_covers 10 _ (by decide +kernel) fun t hf y => ?_
  obtain ⟨⟨h0, h1, h2, h3⟩, ⟨h4, h5, h6⟩, h7, h8, h9⟩ := places t
  blk_simp
  rw [after0_10]
  obtain ⟨i, j, rfl⟩ : ∃ (i : Fin 1280) (j : Fin 256), y = ix2 i j := ⟨y 0, y 1, (ix2_eta y).symm⟩
  refine (block_value _ _ _ _ _ _ _ _ _ _ (ix2 i j)).trans ?_
  unfold whole merged sum3 gated dot shift
  blk_point [iblk, h0, h1, h2, h3, h4, h5, h6, h7, h8, h9]

/-- The reference runs, leaves its arguments, and every counter is at zero. -/
theorem quiescent_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- From equal arguments both programs run and leave equal results. -/
theorem algebraic : Cert.algebraic_Kernel3Ideal_Reference3Ideal := by
  intro m g m' g' _ hagree
  refine ⟨fun c => (dats m 0 c).arrAt 10 cfg0.N, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  obtain ⟨e0, e1, e2, e3, e4, e5, e6, e7⟩ := hagree c
  rw [e0, e1, e2, e3, e4, e5, e6, e7]
  refine Eq.trans ?_ (final m c).symm
  funext y
  obtain ⟨i, j, rfl⟩ : ∃ (i : Fin 33280) (j : Fin 2048), y = ix2 i j := ⟨y 0, y 1, (ix2_eta y).symm⟩
  pointwise [whole, merged, sum3, gated, sigm, dot, shift]
  have e11 : 9216 + (2048 + j.val) = 11264 + j.val := by omega
  have e13 : 9216 + (4096 + j.val) = 13312 + j.val := by omega
  simp only [zero_sub, e11, e13]

end Cert.Proof.Merge
end
-- ==== Proof.Down.lean ====
/-
  The down projection of the feed-forward layer: what the kernel's body computes from its blocks at the two halves of the
  inner dimension, and that the blocks written back are the reference's two arrays.
-/
module

public import proofs.«01_k».proof.Proof.Dense
public import proofs.«01_k».proof.Proof.Gen.Kernel4Ideal.Value
public import proofs.«01_k».proof.Proof.Gen.Reference4Ideal.Run
public import Idealize.ShloMosaic.Lib.Pipeline.ValueKit.Point

@[expose] public section
noncomputable section
open Idealize.ShloMosaic Idealize.ShloMosaic.TcCoe Idealize.SL.Sem Cert.Kernel4Ideal Cert.Kernel4Ideal.Gen
open Cert.Proof.Dense
namespace Cert.Proof.Down

/-- The first half product of the lower rows. -/
theorem pay1_at (x : Vec Ideal S320x2816 .bf16) (w : Vec Ideal S1x2816x2048 .bf16) (i : Fin 320) (j : Fin 2048) :
    k0_pay1 (F := Ideal) x w (ix2 i j) = dot (D := 0) x w i j := by
  pointwise [k0_pay1, dot]

/-- The first half product of the upper rows. -/
theorem pay2_at (x : Vec Ideal S320x2816 .bf16) (w : Vec Ideal S1x2816x2048 .bf16) (i : Fin 320) (j : Fin 2048) :
    k0_pay2 (F := Ideal) x w (ix2 i j) = dot (D := 0) x w i j := by
  pointwise [k0_pay2, dot]

/-- The rows of `h` with the normed sum of `a` and a product added. -/
def added {R D : ℕ} (a : Arr ⟨2, ![R, 2048]⟩) (x : Arr ⟨2, ![R, 2816]⟩) (w : Arr ⟨3, ![D + 1, 2816, 2048]⟩) (h : Arr ⟨2, ![R, 2048]⟩) {E : ℕ}
    (n : Arr ⟨2, ![E + 1, 2048]⟩) (i : Fin R) : Fin 2048 → EReal :=
  resid (row h i) (fun l => row a i l + dot x w i l) (row n 0)

/-- One half's new rows: the sum of both half products, normed and added. -/
theorem pay6_at (a : Vec Ideal S320x2048 .f32) (x : Vec Ideal S320x2816 .bf16) (w : Vec Ideal S1x2816x2048 .bf16) (h : Vec Ideal S320x2048 .f32)
    (n : Vec Ideal S1x2048 .f32) (i : Fin 320) (j : Fin 2048) : k0_pay6 (F := Ideal) a x w h n (ix2 i j) = added (D := 0) a x w h (E := 0) n i j := by
  pointwise [k0_pay6, added, resid, normed, rms, row, dot]

/-- The other half's new rows. -/
theorem pay10_at (a : Vec Ideal S320x2048 .f32) (x : Vec Ideal S320x2816 .bf16) (w : Vec Ideal S1x2816x2048 .bf16) (h : Vec Ideal S320x2048 .f32)
    (n : Vec Ideal S1x2048 .f32) (i : Fin 320) (j : Fin 2048) : k0_pay10 (F := Ideal) a x w h n (ix2 i j) = added (D := 0) a x w h (E := 0) n i j := by
  pointwise [k0_pay10, added, resid, normed, rms, row, dot]

/-- Those rows of the one half, normed. -/
theorem pay9_at (a : Vec Ideal S320x2048 .f32) (x : Vec Ideal S320x2816 .bf16) (w : Vec Ideal S1x2816x2048 .bf16) (h : Vec Ideal S320x2048 .f32)
    (n n' : Vec Ideal S1x2048 .f32) (i : Fin 320) (j : Fin 2048) :
    k0_pay9 (F := Ideal) (k0_pay7 a x w h n) (k0_pay8 n') (ix2 i j) = normed (added (D := 0) a x w h (E := 0) n i) (row (R := 1) n' 0) j := by
  pointwise [k0_pay9, k0_pay8, k0_pay7, k0_pay6, added, resid, normed, rms, row, dot]

/-- Those rows of the other half, normed. -/
theorem pay5_at (a : Vec Ideal S320x2048 .f32) (x : Vec Ideal S320x2816 .bf16) (w : Vec Ideal S1x2816x2048 .bf16) (h : Vec Ideal S320x2048 .f32)
    (n n' : Vec Ideal S1x2048 .f32) (i : Fin 320) (j : Fin 2048) :
    k0_pay5 (F := Ideal) (k0_pay10 a x w h n) (k0_pay11 a x w h n) n' (ix2 i j) = normed (added (D := 0) a x w h (E := 0) n i) (row (R := 1) n' 0) j := by
  pointwise [k0_pay5, k0_pay11, k0_pay10, added, resid, normed, rms, row, dot]

/-- A row of the lower half. -/
def lower (i : Fin 320) : Fin 640 := ⟨i.val, by omega⟩

/-- A row of the upper half. -/
def upper (i : Fin 320) : Fin 640 := ⟨320 + i.val, by omega⟩

/-- Reading the lower half of the rows. -/
theorem ld_lower {e : EltTy} {K : ℕ} (X : (⟨2, ![640, K]⟩ : Shape).Idx → Elt Ideal e) (inb) (i : Fin 320) (k : Fin K) :
    View.ld X (Rect.unit (s := ⟨2, ![640, K]⟩) ![0, 0] ![320, K] inb) (ix2 i k) = X (ix2 (lower i) k) := by
  refine View.ld_unit_apply_of X _ _ _ _ _ fun a => ?_
  fin_cases a
  · exact (Nat.zero_add _).symm
  · exact (Nat.zero_add _).symm

/-- Reading the upper half of the rows. -/
theorem ld_upper {e : EltTy} {K : ℕ} (X : (⟨2, ![640, K]⟩ : Shape).Idx → Elt Ideal e) (inb) (i : Fin 320) (k : Fin K) :
    View.ld X (Rect.unit (s := ⟨2, ![640, K]⟩) ![320, 0] ![320, K] inb) (ix2 i k) = X (ix2 (upper i) k) := by
  refine View.ld_unit_apply_of X _ _ _ _ _ fun a => ?_
  fin_cases a
  · rfl
  · exact (Nat.zero_add _).symm

/-- Two stores of half the rows each, read back: one function of the whole block. -/
theorem halves {e : EltTy} (G : S640x2048.Idx → Elt Ideal e) (hi lo : S320x2048.Idx → Elt Ideal e) (inbhi inblo)
    (hhi : ∀ i j, hi (ix2 i j) = G (ix2 (upper i) j)) (hlo : ∀ i j, lo (ix2 i j) = G (ix2 (lower i) j)) (y : S640x2048.Idx) :
    View.canon [⟨Rect.unit (s := S640x2048) ![320, 0] ![320, 2048] inbhi, hi⟩, ⟨Rect.unit (s := S640x2048) ![0, 0] ![320, 2048] inblo, lo⟩] y = G y := by
  refine View.canon_apply_of_pieces (Val := Elt Ideal) (e := e) G _ ?_ y (View.cover_of_tiled (Val := Elt Ideal) (e := e)
    [⟨Rect.unit (s := S640x2048) ![320, 0] ![320, 2048] inbhi, hi⟩, ⟨Rect.unit (s := S640x2048) ![0, 0] ![320, 2048] inblo, lo⟩] S320x2048.size (by rfl) y)
  intro p hp z
  simp only [List.mem_cons, List.not_mem_nil, or_false] at hp
  rcases hp with rfl | rfl
  · obtain ⟨i, j, rfl⟩ : ∃ (i : Fin 320) (j : Fin 2048), z = ix2 i j := ⟨z 0, z 1, (ix2_eta z).symm⟩
    exact (hhi i j).trans (ld_upper G inbhi i j).symm
  · obtain ⟨i, j, rfl⟩ : ∃ (i : Fin 320) (j : Fin 2048), z = ix2 i j := ⟨z 0, z 1, (ix2_eta z).symm⟩
    exact (hlo i j).trans (ld_lower G inblo i j).symm

/-- A product over the inner dimension from its two halves. -/
theorem dot_halves {R D : ℕ} (x : Arr ⟨2, ![R, 5632]⟩) (w : Arr ⟨3, ![D + 1, 5632, 2048]⟩) (r : Fin R) (j : Fin 2048) :
    dot x w r j = (∑ k : Fin 2816, x (ix2 r ⟨k.val, by omega⟩) * w (ix3 0 ⟨k.val, by omega⟩ j)) +
      ∑ k : Fin 2816, x (ix2 r ⟨2816 + k.val, by omega⟩) * w (ix3 0 ⟨2816 + k.val, by omega⟩ j) :=
  Fin.sum_univ_add (a := 2816) (b := 2816) fun k : Fin 5632 => x (ix2 r k) * w (ix3 0 k j)

variable (m : (ℓ : Loc nD τ sig) → Buf (Elt Ideal) ℓ) (c : Dev nD)

/-- What the first half of the inner dimension leaves: its product. -/
theorem first (t : Fin cfg0.N) (h0 : t.val % 2 = 0) (i : Fin 640) (j : Fin 2048) :
    (outsAt0 m c t.val t.isLt).1 (ix2 i j) = dot (R := 640) (K := 2816) (D := 0) (N := 2048) (iblk m c 0 t) (iblk m c 1 t) i j := by
  rw [outsAt0_A m c t h0 (by omega)]
  dsimp only
  frame_out
  refine halves (e := .f32) (fun y : S640x2048.Idx => dot (R := 640) (K := 2816) (D := 0) (N := 2048) (iblk m c 0 t) (iblk m c 1 t) (y 0) (y 1)) _ _ _ _ (fun i j => ?_) (fun i j => ?_) (ix2 i j)
  · exact (pay2_at _ _ i j).trans (dot_congr (fun k => ld_upper _ _ i k) fun k => rfl)
  · exact (pay1_at _ _ i j).trans (dot_congr (fun k => ld_lower _ _ i k) fun k => rfl)

/-- Equal rows give equal sums. -/
theorem added_congr {R R' : ℕ} {a : Arr ⟨2, ![R, 2048]⟩} {a' : Arr ⟨2, ![R', 2048]⟩} {x : Arr ⟨2, ![R, 2816]⟩} {x' : Arr ⟨2, ![R', 2816]⟩}
    {w : Arr ⟨3, ![1, 2816, 2048]⟩} {h : Arr ⟨2, ![R, 2048]⟩} {h' : Arr ⟨2, ![R', 2048]⟩} {n : Arr ⟨2, ![1, 2048]⟩} {i : Fin R} {i' : Fin R'} {j : Fin 2048}
    (ha : ∀ k, a (ix2 i k) = a' (ix2 i' k)) (hx : ∀ k, x (ix2 i k) = x' (ix2 i' k)) (hh : ∀ k, h (ix2 i k) = h' (ix2 i' k)) :
    added (D := 0) a x w h (E := 0) n i j = added (D := 0) a' x' w h' (E := 0) n i' j :=
  resid_congr hh (fun l => congrArg₂ (fun a b : EReal => a + b) (ha l) (dot_congr hx fun k => rfl)) (fun k => rfl) rfl

/-- What the second half leaves in the first window's block, over what the first half left. -/
theorem second_added (t : Fin cfg0.N) (h2 : t.val % 2 = 1) (i : Fin 640) (j : Fin 2048) :
    (outsAt0 m c t.val t.isLt).1 (ix2 i j) =
      added (R := 640) (D := 0) (outsAt0 m c (t.val - 1) (Nat.lt_of_le_of_lt (Nat.sub_le _ _) t.isLt)).1 (iblk m c 0 t) (iblk m c 1 t) (iblk m c 2 t)
        (E := 0) (iblk m c 3 t) i j := by
  rw [outsAt0_B m c t (by omega) h2]
  dsimp only
  frame_out
  refine halves (e := .f32) (fun y : S640x2048.Idx =>
    added (R := 640) (D := 0) (outsAt0 m c (t.val - 1) (Nat.lt_of_le_of_lt (Nat.sub_le _ _) t.isLt)).1 (iblk m c 0 t) (iblk m c 1 t) (iblk m c 2 t)
        (E := 0) (iblk m c 3 t) (y 0) (y 1)) _ _ _ _ (fun i j => ?_) (fun i j => ?_) (ix2 i j)
  · exact (pay10_at _ _ _ _ _ i j).trans (added_congr (fun k => ld_upper _ _ i k) (fun k => ld_upper _ _ i k) fun k => ld_upper _ _ i k)
  · exact (pay6_at _ _ _ _ _ i j).trans (added_congr (fun k => ld_lower _ _ i k) (fun k => ld_lower _ _ i k) fun k => ld_lower _ _ i k)

/-- What the second half leaves in the second window's block. -/
theorem second_normed (t : Fin cfg0.N) (h2 : t.val % 2 = 1) (i : Fin 640) (j : Fin 2048) :
    (outsAt0 m c t.val t.isLt).2 (ix2 i j) =
      normed (added (R := 640) (D := 0) (outsAt0 m c (t.val - 1) (Nat.lt_of_le_of_lt (Nat.sub_le _ _) t.isLt)).1 (iblk m c 0 t) (iblk m c 1 t) (iblk m c 2 t)
        (E := 0) (iblk m c 3 t) i) (row (R := 1) (N := 2048) (iblk m c 4 t) 0) j := by
  rw [outsAt0_B m c t (by omega) h2]
  dsimp only
  frame_out
  refine halves (e := .bf16) (fun y : S640x2048.Idx =>
    normed (added (R := 640) (D := 0) (outsAt0 m c (t.val - 1) (Nat.lt_of_le_of_lt (Nat.sub_le _ _) t.isLt)).1 (iblk m c 0 t) (iblk m c 1 t) (iblk m c 2 t)
        (E := 0) (iblk m c 3 t) (y 0)) (row (R := 1) (N := 2048) (iblk m c 4 t) 0) (y 1)) _ _ _ _ (fun i j => ?_) (fun i j => ?_) (ix2 i j)
  · exact (pay5_at _ _ _ _ _ _ i j).trans (normed_congr (fun l => added_congr (fun k => ld_upper _ _ i k) (fun k => ld_upper _ _ i k) fun k => ld_upper _ _ i k) (fun k => rfl) rfl)
  · exact (pay9_at _ _ _ _ _ _ i j).trans (normed_congr (fun l => added_congr (fun k => ld_lower _ _ i k) (fun k => ld_lower _ _ i k) fun k => ld_lower _ _ i k) (fun k => rfl) rfl)

/-- The blocks' places at the second half, and at the first before it. -/
theorem places : ∀ t : Fin grid0.N, t.val % 2 = 1 →
    (win0_0.index t = ![win0_5.index t (0 : Fin 2), 1] ∧ win0_1.index t = ![3, 1, 0] ∧ win0_2.index t = ![win0_5.index t (0 : Fin 2), 0] ∧
    win0_3.index t = ![0, 0] ∧ win0_4.index t = ![0, 0]) ∧ win0_6.index t = ![win0_5.index t (0 : Fin 2), 0] ∧ win0_5.index t (1 : Fin 2) = 0 ∧
    win0_0.index ⟨t.val - 1, Nat.lt_of_le_of_lt (Nat.sub_le _ _) t.isLt⟩ = ![win0_5.index t (0 : Fin 2), 0] ∧
    win0_1.index ⟨t.val - 1, Nat.lt_of_le_of_lt (Nat.sub_le _ _) t.isLt⟩ = ![3, 0, 0] := by decide +kernel

/-- The points that write back are those of the second half. -/
theorem flushes : ∀ t : Fin grid0.N, (win0_5.flush t = true → t.val % 2 = 1) ∧ (win0_6.flush t = true → t.val % 2 = 1) := by decide +kernel

/-- The row of the arrays a row of a block stands for. -/
def place (t : Fin cfg0.N) (i : Fin 640) (h : win0_5.index t (0 : Fin 2) < 52) : Fin 33280 := ⟨win0_5.index t (0 : Fin 2) * 640 + i.val, by omega⟩

/-- Every row block lies in the array. -/
theorem inside : ∀ t : Fin grid0.N, win0_5.index t (0 : Fin 2) < 52 := by decide +kernel

/-- The last layer's weights out of all four. -/
def last (w : Arr S4x5632x2048) : Arr ⟨3, ![1, 5632, 2048]⟩ := fun y => w (ix3 3 (y 1) (y 2))

/-- The product of the two halves at a row of a block. -/
theorem both (t : Fin cfg0.N) (h2 : t.val % 2 = 1) (i : Fin 640) (l : Fin 2048) (r : Fin 33280) (hr : r.val = win0_5.index t (0 : Fin 2) * 640 + i.val) :
    row (R := 640) (outsAt0 m c (t.val - 1) (Nat.lt_of_le_of_lt (Nat.sub_le _ _) t.isLt)).1 i l +
        dot (R := 640) (K := 2816) (D := 0) (N := 2048) (iblk m c 0 t) (iblk m c 1 t) i l =
      dot (R := 33280) (K := 5632) (D := 0) (N := 2048) (m ((c.tc : Thread nD τ).loc main_arg0)) (last (m ((c.tc : Thread nD τ).loc main_arg1))) r l := by
  obtain ⟨⟨h0, h1, -, -, -⟩, -, -, k0, k1⟩ := places t h2
  rw [dot_halves]
  refine congrArg₂ (fun a b : EReal => a + b) ?_ ?_
  · refine (first m c ⟨t.val - 1, Nat.lt_of_le_of_lt (Nat.sub_le _ _) t.isLt⟩ (by dsimp only; omega) i l).trans
      (Finset.sum_congr rfl fun k _ => congrArg₂ (fun a b : EReal => a * b) ?_ ?_)
    · blk_ext! [iblk, V, k0, hr]
    · blk_ext! [iblk, V, k1, last]
  · refine Finset.sum_congr rfl fun k _ => congrArg₂ (fun a b : EReal => a * b) ?_ ?_
    · blk_ext! [iblk, V, h0, hr]
    · blk_ext! [iblk, V, h1, last]

/-- The rows with the normed product added, over the arrays. -/
def whole (a0 : Arr S33280x5632) (a1 : Arr S4x5632x2048) (a2 : Arr S33280x2048) (a3 : Arr S4x2048) : Arr S33280x2048 := fun y =>
  resid (row a2 (y 0)) (dot (D := 0) a0 (last a1) (y 0)) (row (R := 4) a3 3) (y 1)

/-- The same rows normed for the next layer. -/
def next (a0 : Arr S33280x5632) (a1 : Arr S4x5632x2048) (a2 : Arr S33280x2048) (a3 a4 : Arr S4x2048) : Arr S33280x2048 := fun y =>
  normed (resid (row a2 (y 0)) (dot (D := 0) a0 (last a1) (y 0)) (row (R := 4) a3 3)) (row (R := 4) a4 0) (y 1)

/-- The first array the kernel leaves. -/
theorem final_added : (dats m 0 c).arrAt 5 cfg0.N =
    (whole (m ((c.tc : Thread nD τ).loc main_arg0)) (m ((c.tc : Thread nD τ).loc main_arg1)) (m ((c.tc : Thread nD τ).loc main_arg2))
      (m ((c.tc : Thread nD τ).loc main_arg3)) : Vec Ideal S33280x2048 .f32) := by
  refine (dats m 0 c).arrAt_eq_of_covers 5 _ (by decide +kernel) fun t hf y => ?_
  have h := (flushes t).1 hf
  obtain ⟨⟨h0, h1, h2, h3, h4⟩, h6, h5, -, -⟩ := places t h
  blk_simp
  rw [after0_5]
  obtain ⟨i, j, rfl⟩ : ∃ (i : Fin 640) (j : Fin 2048), y = ix2 i j := ⟨y 0, y 1, (ix2_eta y).symm⟩
  refine (second_added m c t h i j).trans (resid_congr (fun k => ?_) (fun l => both m c t h i l _ ?_) (fun k => ?_) ?_)
  · unfold row
    blk_ext! [iblk, V, h2, h5]
  · blk_simp
  · unfold row
    blk_ext! [iblk, V, h3]
  · refine Fin.ext ?_
    blk_simp [h5]

/-- The second array the kernel leaves. -/
theorem final_normed : (dats m 0 c).arrAt 6 cfg0.N =
    (next (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) : Vec Ideal S33280x2048 .bf16) := by
  refine (dats m 0 c).arrAt_eq_of_covers 6 _ (by decide +kernel) fun t hf y => ?_
  have h := (flushes t).2 hf
  obtain ⟨⟨h0, h1, h2, h3, h4⟩, h6, h5, -, -⟩ := places t h
  blk_simp
  rw [after0_6]
  obtain ⟨i, j, rfl⟩ : ∃ (i : Fin 640) (j : Fin 2048), y = ix2 i j := ⟨y 0, y 1, (ix2_eta y).symm⟩
  refine (second_normed m c t h i j).trans
    (normed_congr (fun l => resid_congr (fun k => ?_) (fun l => both m c t h i l _ ?_) (fun k => ?_) rfl) (fun k => ?_) ?_)
  · unfold row
    blk_ext! [iblk, V, h2, h6]
  · blk_simp [h6]
  · unfold row
    blk_ext! [iblk, V, h3]
  · unfold row
    blk_ext! [iblk, V, h4]
  · refine Fin.ext ?_
    blk_simp [h6]

/-- The reference runs, leaves its arguments, and every counter is at zero. -/
theorem quiescent_reference : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run m ρ)

/-- From equal arguments both programs run and leave equal results. -/
theorem algebraic : Cert.algebraic_Kernel4Ideal_Reference4Ideal := by
  intro m g m' g' _ hagree
  refine ⟨fun c => (dats m 0 c).arrAt 5 cfg0.N, fun c => (dats m 0 c).arrAt 6 cfg0.N, Cert.Kernel4Ideal.Value.run_blocks (F := Ideal) m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨e0, e1, e2, e3, e4⟩ := hagree c
    rw [e0, e1, e2, e3]
    refine Eq.trans ?_ (final_added m c).symm
    funext y
    obtain ⟨i, j, rfl⟩ : ∃ (i : Fin 33280) (j : Fin 2048), y = ix2 i j := ⟨y 0, y 1, (ix2_eta y).symm⟩
    pointwise [whole, last, resid, normed, rms, row, dot]
  · obtain ⟨e0, e1, e2, e3, e4⟩ := hagree c
    unfold Cert.Reference4Ideal.Value.res_main_v35
    rw [e0, e1, e2, e3, e4]
    refine Eq.trans ?_ (final_normed m c).symm
    funext y
    obtain ⟨i, j, rfl⟩ : ∃ (i : Fin 33280) (j : Fin 2048), y = ix2 i j := ⟨y 0, y 1, (ix2_eta y).symm⟩
    pointwise [next, last, resid, normed, rms, row, dot]

end Cert.Proof.Down
end
-- ==== Proof.Out.lean ====
/-
  The output projection: what the kernel's body computes from its blocks, and that the blocks written back are the
  reference's two arrays.
-/
module

public import proofs.«01_k».proof.Proof.Dense
public import proofs.«01_k».proof.Proof.Gen.Kernel5Ideal.Value
public import proofs.«01_k».proof.Proof.Gen.Reference5Ideal.Run
public import Idealize.ShloMosaic.Lib.Pipeline.ValueKit.Point

@[expose] public section
noncomputable section
open Idealize.ShloMosaic Idealize.ShloMosaic.TcCoe Idealize.SL.Sem Cert.Kernel5Ideal Cert.Kernel5Ideal.Gen
open Cert.Proof.Dense
namespace Cert.Proof.Out

/-- The rows with the normed product added. -/
def added {R D : ℕ} (x : Arr ⟨2, ![R, 2048]⟩) (w : Arr ⟨3, ![D + 1, 2048, 2048]⟩) (h : Arr ⟨2, ![R, 2048]⟩) {E : ℕ} (n : Arr ⟨2, ![E + 1, 2048]⟩)
    (i : Fin R) : Fin 2048 → EReal :=
  resid (row h i) (dot x w i) (row n 0)

/-- One half's new rows: the product, normed and added. -/
theorem pay1_at (x : Vec Ideal S320x2048 .bf16) (w : Vec Ideal S1x2048x2048 .bf16) (h : Vec Ideal S320x2048 .f32) (n : Vec Ideal S1x2048 .f32)
    (i : Fin 320) (j : Fin 2048) : k0_pay1 (F := Ideal) x w h n (ix2 i j) = added (D := 0) x w h (E := 0) n i j := by
  pointwise [k0_pay1, added, resid, normed, rms, row, dot]

/-- The other half's new rows. -/
theorem pay3_at (x : Vec Ideal S320x2048 .bf16) (w : Vec Ideal S1x2048x2048 .bf16) (h : Vec Ideal S320x2048 .f32) (n : Vec Ideal S1x2048 .f32)
    (i : Fin 320) (j : Fin 2048) : k0_pay3 (F := Ideal) x w h n (ix2 i j) = added (D := 0) x w h (E := 0) n i j := by
  pointwise [k0_pay3, added, resid, normed, rms, row, dot]

/-- Those rows of the one half, normed. -/
theorem pay2_at (x : Vec Ideal S320x2048 .bf16) (w : Vec Ideal S1x2048x2048 .bf16) (h : Vec Ideal S320x2048 .f32) (n n' : Vec Ideal S1x2048 .f32)
    (i : Fin 320) (j : Fin 2048) :
    k0_pay2 (F := Ideal) x w h n n' (ix2 i j) = normed (added (D := 0) x w h (E := 0) n i) (row (R := 1) n' 0) j := by
  pointwise [k0_pay2, k0_pay1, added, resid, normed, rms, row, dot]

/-- Those rows of the other half, normed. -/
theorem pay4_at (x : Vec Ideal S320x2048 .bf16) (w : Vec Ideal S1x2048x2048 .bf16) (h : Vec Ideal S320x2048 .f32) (n n' : Vec Ideal S1x2048 .f32)
    (i : Fin 320) (j : Fin 2048) :
    k0_pay4 (F := Ideal) x w h n n' (ix2 i j) = normed (added (D := 0) x w h (E := 0) n i) (row (R := 1) n' 0) j := by
  pointwise [k0_pay4, k0_pay3, added, resid, normed, rms, row, dot]

/-- Equal rows give equal sums. -/
theorem added_congr {R R' D D' E E' : ℕ} {x : Arr ⟨2, ![R, 2048]⟩} {x' : Arr ⟨2, ![R', 2048]⟩} {w : Arr ⟨3, ![D + 1, 2048, 2048]⟩}
    {w' : Arr ⟨3, ![D' + 1, 2048, 2048]⟩} {h : Arr ⟨2, ![R, 2048]⟩} {h' : Arr ⟨2, ![R', 2048]⟩} {n : Arr ⟨2, ![E + 1, 2048]⟩}
    {n' : Arr ⟨2, ![E' + 1, 2048]⟩} {i : Fin R} {i' : Fin R'} {j j' : Fin 2048}
    (hx : ∀ k, x (ix2 i k) = x' (ix2 i' k)) (hw : ∀ k l, w (ix3 0 k l) = w' (ix3 0 k l)) (hh : ∀ k, h (ix2 i k) = h' (ix2 i' k))
    (hn : ∀ k, n (ix2 0 k) = n' (ix2 0 k)) (hj : j = j') : added x w h n i j = added x' w' h' n' i' j' :=
  resid_congr hh (fun l => dot_congr hx fun k => hw k l) hn hj

/-- A column of the lower rows is that column of the block. -/
theorem lower_col (i : Fin 320) (j : Fin 2048) : (r0_0.emb (ix2 i j) (1 : Fin 2) : Fin 2048) = j :=
  Fin.ext ((Rect.idx_unit_val (s := S640x2048) ![0, 0] S320x2048.size inb_S640x2048_S320x2048_0_0 (ix2 i j) (1 : Fin 2)).trans (Nat.zero_add _))

/-- A column of the upper rows is that column of the block. -/
theorem upper_col (i : Fin 320) (j : Fin 2048) : (r0_3.emb (ix2 i j) (1 : Fin 2) : Fin 2048) = j :=
  Fin.ext ((Rect.idx_unit_val (s := S640x2048) ![320, 0] S320x2048.size inb_S640x2048_S320x2048_320_0 (ix2 i j) (1 : Fin 2)).trans (Nat.zero_add _))

/-- The first window's block after the body. -/
theorem block_added (x0 : Vec Ideal S640x2048 .bf16) (x1 : Vec Ideal S1x2048x2048 .bf16) (x2 : Vec Ideal S640x2048 .f32) (x3 x4 : Vec Ideal S1x2048 .f32)
    (y : S640x2048.Idx) : out0_5 (F := Ideal) x0 x1 x2 x3 x4 y = added (D := 0) x0 x1 x2 (E := 0) x3 (y 0) (y 1) := by
  unfold out0_5
  refine View.canon_apply_of_pieces (Val := Elt Ideal) (e := .f32) (fun y : S640x2048.Idx => added (D := 0) x0 x1 x2 (E := 0) x3 (y 0) (y 1)) _ ?_ y (cover0_5 _ _ y)
  intro p hp z
  simp only [List.mem_cons, List.not_mem_nil, or_false] at hp
  rcases hp with rfl | rfl
  · obtain ⟨i, j, rfl⟩ : ∃ (i : Fin 320) (j : Fin 2048), z = ix2 i j := ⟨z 0, z 1, (ix2_eta z).symm⟩
    refine (pay3_at _ _ _ _ i j).trans (added_congr (fun k => ?_) (fun k l => ?_) (fun k => ?_) (fun k => ?_) ?_)
    on_goal 5 => exact (upper_col i j).symm
    all_goals
      rw [View.ld_apply]
      blk_ext [Rect.idx_unit_val]
  · obtain ⟨i, j, rfl⟩ : ∃ (i : Fin 320) (j : Fin 2048), z = ix2 i j := ⟨z 0, z 1, (ix2_eta z).symm⟩
    refine (pay1_at _ _ _ _ i j).trans (added_congr (fun k => ?_) (fun k l => ?_) (fun k => ?_) (fun k => ?_) ?_)
    on_goal 5 => exact (lower_col i j).symm
    all_goals
      rw [View.ld_apply]
      blk_ext [Rect.idx_unit_val]

/-- The second window's block after the body. -/
theorem block_normed (x0 : Vec Ideal S640x2048 .bf16) (x1 : Vec Ideal S1x2048x2048 .bf16) (x2 : Vec Ideal S640x2048 .f32) (x3 x4 : Vec Ideal S1x2048 .f32)
    (y : S640x2048.Idx) : out0_6 (F := Ideal) x0 x1 x2 x3 x4 y = normed (added (D := 0) x0 x1 x2 (E := 0) x3 (y 0)) (row (R := 1) x4 0) (y 1) := by
  unfold out0_6
  refine View.canon_apply_of_pieces (Val := Elt Ideal) (e := .bf16) (fun y : S640x2048.Idx => normed (added (D := 0) x0 x1 x2 (E := 0) x3 (y 0)) (row (R := 1) x4 0) (y 1)) _ ?_ y (cover0_6 _ _ y)
  intro p hp z
  simp only [List.mem_cons, List.not_mem_nil, or_false] at hp
  rcases hp with rfl | rfl
  · obtain ⟨i, j, rfl⟩ : ∃ (i : Fin 320) (j : Fin 2048), z = ix2 i j := ⟨z 0, z 1, (ix2_eta z).symm⟩
    refine (pay4_at _ _ _ _ _ i j).trans (normed_congr (fun l => added_congr (fun k => ?_) (fun k l => ?_) (fun k => ?_) (fun k => ?_) rfl) (fun k => ?_) ?_)
    on_goal 6 => exact (upper_col i j).symm
    on_goal 5 => unfold row
    all_goals
      rw [View.ld_apply]
      blk_ext [Rect.idx_unit_val]
  · obtain ⟨i, j, rfl⟩ : ∃ (i : Fin 320) (j : Fin 2048), z = ix2 i j := ⟨z 0, z 1, (ix2_eta z).symm⟩
    refine (pay2_at _ _ _ _ _ i j).trans (normed_congr (fun l => added_congr (fun k => ?_) (fun k l => ?_) (fun k => ?_) (fun k => ?_) rfl) (fun k => ?_) ?_)
    on_goal 6 => exact (lower_col i j).symm
    on_goal 5 => unfold row
    all_goals
      rw [View.ld_apply]
      blk_ext [Rect.idx_unit_val]

/-- The blocks' places. -/
theorem places : ∀ t : Fin grid0.N,
    (win0_0.index t = ![win0_5.index t (0 : Fin 2), 0] ∧ win0_1.index t = ![0, 0, 0] ∧ win0_2.index t = ![win0_5.index t (0 : Fin 2), 0] ∧
    win0_3.index t = ![0, 0] ∧ win0_4.index t = ![0, 0]) ∧ win0_6.index t = ![win0_5.index t (0 : Fin 2), 0] ∧
    win0_5.index t (1 : Fin 2) = 0 := by decide +kernel

variable (m : (ℓ : Loc nD τ sig) → Buf (Elt Ideal) ℓ) (c : Dev nD)

/-- The rows with the normed product added, over the arrays. -/
def whole (a0 : Arr S33280x2048) (a1 : Arr S4x2048x2048) (a2 : Arr S33280x2048) (a3 : Arr S4x2048) : Arr S33280x2048 := fun y =>
  added (D := 3) a0 a1 a2 (E := 3) a3 (y 0) (y 1)

/-- The same rows normed for the next layer. -/
def next (a0 : Arr S33280x2048) (a1 : Arr S4x2048x2048) (a2 : Arr S33280x2048) (a3 a4 : Arr S4x2048) : Arr S33280x2048 := fun y =>
  normed (added (D := 3) a0 a1 a2 (E := 3) a3 (y 0)) (row (R := 4) a4 0) (y 1)

/-- The first array the kernel leaves. -/
theorem final_added : (dats m 0 c).arrAt 5 cfg0.N =
    (whole (m ((c.tc : Thread nD τ).loc main_arg0)) (m ((c.tc : Thread nD τ).loc main_arg1)) (m ((c.tc : Thread nD τ).loc main_arg2))
      (m ((c.tc : Thread nD τ).loc main_arg3)) : Vec Ideal S33280x2048 .f32) := by
  refine (dats m 0 c).arrAt_eq_of_covers 5 _ (by decide +kernel) fun t hf y => ?_
  obtain ⟨⟨h0, h1, h2, h3, h4⟩, h6, h5⟩ := places t
  blk_simp
  rw [after0_5]
  obtain ⟨i, j, rfl⟩ : ∃ (i : Fin 640) (j : Fin 2048), y = ix2 i j := ⟨y 0, y 1, (ix2_eta y).symm⟩
  refine (block_added _ _ _ _ _ (ix2 i j)).trans (added_congr (fun k => ?_) (fun k l => ?_) (fun k => ?_) (fun k => ?_) ?_)
  on_goal 5 =>
    refine Fin.ext ?_
    blk_simp [h5]
  all_goals blk_ext! [iblk, V, h0, h1, h2, h3, h5]

/-- The second array the kernel leaves. -/
theorem final_normed : (dats m 0 c).arrAt 6 cfg0.N =
    (next (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) : Vec Ideal S33280x2048 .bf16) := by
  refine (dats m 0 c).arrAt_eq_of_covers 6 _ (by decide +kernel) fun t hf y => ?_
  obtain ⟨⟨h0, h1, h2, h3, h4⟩, h6, h5⟩ := places t
  blk_simp
  rw [after0_6]
  obtain ⟨i, j, rfl⟩ : ∃ (i : Fin 640) (j : Fin 2048), y = ix2 i j := ⟨y 0, y 1, (ix2_eta y).symm⟩
  refine (block_normed _ _ _ _ _ (ix2 i j)).trans
    (normed_congr (fun l => added_congr (fun k => ?_) (fun k l => ?_) (fun k => ?_) (fun k => ?_) rfl) (fun k => ?_) ?_)
  on_goal 6 =>
    refine Fin.ext ?_
    blk_simp [h6]
  on_goal 5 => unfold row
  all_goals blk_ext! [iblk, V, h0, h1, h2, h3, h4, h6]

/-- The reference runs, leaves its arguments, and every counter is at zero. -/
theorem quiescent_reference : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run m ρ)

/-- From equal arguments both programs run and leave equal results. -/
theorem algebraic : Cert.algebraic_Kernel5Ideal_Reference5Ideal := by
  intro m g m' g' _ hagree
  refine ⟨fun c => (dats m 0 c).arrAt 5 cfg0.N, fun c => (dats m 0 c).arrAt 6 cfg0.N, Cert.Kernel5Ideal.Value.run_blocks (F := Ideal) m g, ?_⟩
  refine (θ_run Cert.Reference5Ideal.defs _ _).mono (fun r h c => ⟨(h c).1.trans ?_, (h c).2.1.trans ?_, (h c).2.2⟩) (Cert.Reference5Ideal.Value.run (F := Ideal) m' g')
  · obtain ⟨e0, e1, e2, e3, e4⟩ := hagree c
    rw [e0, e1, e2, e3]
    refine Eq.trans ?_ (final_added m c).symm
    funext y
    obtain ⟨i, j, rfl⟩ : ∃ (i : Fin 33280) (j : Fin 2048), y = ix2 i j := ⟨y 0, y 1, (ix2_eta y).symm⟩
    pointwise [whole, added, resid, normed, rms, row, dot]
  · obtain ⟨e0, e1, e2, e3, e4⟩ := hagree c
    unfold Cert.Reference5Ideal.Value.res_main_v35
    rw [e0, e1, e2, e3, e4]
    refine Eq.trans ?_ (final_normed m c).symm
    funext y
    obtain ⟨i, j, rfl⟩ : ∃ (i : Fin 33280) (j : Fin 2048), y = ix2 i j := ⟨y 0, y 1, (ix2_eta y).symm⟩
    pointwise [next, added, resid, normed, rms, row, dot]

end Cert.Proof.Out
end
-- ==== Proof.Proj6.lean ====
module

public import proofs.«01_k».proof.Proof.Dense
public import proofs.«01_k».proof.Proof.Gen.Kernel6Ideal.Value
public import proofs.«01_k».proof.Proof.Gen.Reference6Ideal.Run
public import Idealize.ShloMosaic.Lib.Pipeline.ValueKit.Point

@[expose] public section
noncomputable section
open Idealize.ShloMosaic Idealize.ShloMosaic.TcCoe Idealize.SL.Sem Cert.Kernel6Ideal Cert.Kernel6Ideal.Gen
open Cert.Proof.Dense
namespace Cert.Proof.Proj6

variable (m : (ℓ : Loc nD τ sig) → Buf (Elt Ideal) ℓ) (c : Dev nD)

/-- The blocks' places: rows by the inner coordinate, columns by the outer. -/
theorem places : ∀ t : Fin grid0.N, win0_0.index t = ![win0_2.index t (0 : Fin 2), 0] ∧
    win0_1.index t = ![0, 0, 4 + win0_2.index t (1 : Fin 2)] := by decide +kernel

/-- The kernel's product of two blocks. -/
theorem pay_at (x : Vec Ideal S1664x2048 .bf16) (w : Vec Ideal S1x2048x1024 .bf16) (i : Fin 1664) (j : Fin 1024) :
    k0_pay1 (F := Ideal) x w (ix2 i j) = dot (D := 0) x w i j := by
  pointwise [k0_pay1, dot]

/-- The block of the weights at a point. -/
theorem block_at (t : Fin cfg0.N) (k : Fin 2048) (j : Fin 1024) (J : Fin 19712) (hJ : J.val = 1024 * (4 + win0_2.index t (1 : Fin 2)) + j.val) :
    (X0_1 m c t : Vec Ideal S1x2048x1024 .bf16) (ix3 0 k j) = (m ((c.tc : Thread nD τ).loc main_arg1) : Vec Ideal S4x2048x19712 .bf16) (ix3 0 k J) := by
  obtain ⟨h0, h1⟩ := places t
  unfold X0_1 Pipeline.Window.fill
  rw [dif_pos (moved0_1 t _)]
  unfold iblk
  blk_simp
  refine congrArg _ ?_
  blk_ext [h1, hJ]

/-- What the kernel leaves: the array times the columns. -/
theorem final : (dats m 0 c).arrAt 2 cfg0.N =
    (proj 5120 19712 4096 (by omega) (D := 3) (m ((c.tc : Thread nD τ).loc main_arg0)) (m ((c.tc : Thread nD τ).loc main_arg1)) : Vec Ideal S33280x5120 .f32) := by
  refine (dats m 0 c).arrAt_eq_of_covers 2 _ (by decide +kernel) fun t hf y => ?_
  obtain ⟨h0, h1⟩ := places t
  blk_simp
  rw [after0_2]
  unfold outsAt0
  frame_out
  obtain ⟨i, j, rfl⟩ : ∃ (i : Fin 1664) (j : Fin 1024), y = ix2 i j := ⟨y 0, y 1, (ix2_eta y).symm⟩
  refine (pay_at _ _ i j).trans ?_
  unfold proj dot shift
  refine Finset.sum_congr rfl fun k _ => congrArg₂ (fun a b : EReal => a * b) ?_ ?_
  · blk_ext [iblk, V, h0]
  · refine block_at m c t k j _ ?_
    blk_simp
    show 4096 + (win0_2.index t (1 : Fin 2) * 1024 + j.val) = _
    omega

/-- The reference runs, leaves its arguments, and every counter is at zero. -/
theorem quiescent_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

/-- From equal arguments both programs run and leave equal results. -/
theorem algebraic : Cert.algebraic_Kernel6Ideal_Reference6Ideal := by
  intro m g m' g' _ hagree
  refine ⟨fun c => (dats m 0 c).arrAt 2 cfg0.N, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  rw [(hagree c).1, (hagree c).2]
  refine Eq.trans ?_ (final m c).symm
  funext y
  obtain ⟨i, j, rfl⟩ : ∃ (i : Fin 33280) (j : Fin 5120), y = ix2 i j := ⟨y 0, y 1, (ix2_eta y).symm⟩
  pointwise [proj, dot, shift]

end Cert.Proof.Proj6
end
-- ==== Proof.Proj7.lean ====
module

public import proofs.«01_k».proof.Proof.Dense
public import proofs.«01_k».proof.Proof.Gen.Kernel7Ideal.Value
public import proofs.«01_k».proof.Proof.Gen.Reference7Ideal.Run
public import Idealize.ShloMosaic.Lib.Pipeline.ValueKit.Point

@[expose] public section
noncomputable section
open Idealize.ShloMosaic Idealize.ShloMosaic.TcCoe Idealize.SL.Sem Cert.Kernel7Ideal Cert.Kernel7Ideal.Gen
open Cert.Proof.Dense
namespace Cert.Proof.Proj7

variable (m : (ℓ : Loc nD τ sig) → Buf (Elt Ideal) ℓ) (c : Dev nD)

/-- The blocks' places: rows by the inner coordinate, columns by the outer. -/
theorem places : ∀ t : Fin grid0.N, win0_0.index t = ![win0_2.index t (0 : Fin 2), 0] ∧
    win0_1.index t = ![0, 0, 0 + win0_2.index t (1 : Fin 2)] := by decide +kernel

/-- The kernel's product of two blocks. -/
theorem pay_at (x : Vec Ideal S1664x2048 .bf16) (w : Vec Ideal S1x2048x1024 .bf16) (i : Fin 1664) (j : Fin 1024) :
    k0_pay1 (F := Ideal) x w (ix2 i j) = dot (D := 0) x w i j := by
  pointwise [k0_pay1, dot]

/-- The block of the weights at a point. -/
theorem block_at (t : Fin cfg0.N) (k : Fin 2048) (j : Fin 1024) (J : Fin 19712) (hJ : J.val = 1024 * (0 + win0_2.index t (1 : Fin 2)) + j.val) :
    (X0_1 m c t : Vec Ideal S1x2048x1024 .bf16) (ix3 0 k j) = (m ((c.tc : Thread nD τ).loc main_arg1) : Vec Ideal S4x2048x19712 .bf16) (ix3 0 k J) := by
  obtain ⟨h0, h1⟩ := places t
  unfold X0_1 Pipeline.Window.fill
  rw [dif_pos (moved0_1 t _)]
  unfold iblk
  blk_simp
  refine congrArg _ ?_
  blk_ext [h1, hJ]

/-- What the kernel leaves: the array times the columns. -/
theorem final : (dats m 0 c).arrAt 2 cfg0.N =
    (proj 4096 19712 0 (by omega) (D := 3) (m ((c.tc : Thread nD τ).loc main_arg0)) (m ((c.tc : Thread nD τ).loc main_arg1)) : Vec Ideal S33280x4096 .f32) := by
  refine (dats m 0 c).arrAt_eq_of_covers 2 _ (by decide +kernel) fun t hf y => ?_
  obtain ⟨h0, h1⟩ := places t
  blk_simp
  rw [after0_2]
  unfold outsAt0
  frame_out
  obtain ⟨i, j, rfl⟩ : ∃ (i : Fin 1664) (j : Fin 1024), y = ix2 i j := ⟨y 0, y 1, (ix2_eta y).symm⟩
  refine (pay_at _ _ i j).trans ?_
  unfold proj dot shift
  refine Finset.sum_congr rfl fun k _ => congrArg₂ (fun a b : EReal => a * b) ?_ ?_
  · blk_ext [iblk, V, h0]
  · refine block_at m c t k j _ ?_
    blk_simp
    show win0_2.index t (1 : Fin 2) * 1024 + j.val = _
    omega

/-- The reference runs, leaves its arguments, and every counter is at zero. -/
theorem quiescent_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

/-- From equal arguments both programs run and leave equal results. -/
theorem algebraic : Cert.algebraic_Kernel7Ideal_Reference7Ideal := by
  intro m g m' g' _ hagree
  refine ⟨fun c => (dats m 0 c).arrAt 2 cfg0.N, Cert.Kernel7Ideal.Value.run_blocks (F := Ideal) m g, ?_⟩
  refine (θ_run Cert.Reference7Ideal.defs _ _).mono (fun r h c => ⟨(h c).1.trans ?_, (h c).2⟩) (Cert.Reference7Ideal.Value.run (F := Ideal) m' g')
  rw [(hagree c).1, (hagree c).2]
  refine Eq.trans ?_ (final m c).symm
  funext y
  obtain ⟨i, j, rfl⟩ : ∃ (i : Fin 33280) (j : Fin 4096), y = ix2 i j := ⟨y 0, y 1, (ix2_eta y).symm⟩
  pointwise [proj, dot, shift]

end Cert.Proof.Proj7
end
-- ==== Proof.Proj8.lean ====
module

public import proofs.«01_k».proof.Proof.Dense
public import proofs.«01_k».proof.Proof.Gen.Kernel8Ideal.Value
public import proofs.«01_k».proof.Proof.Gen.Reference8Ideal.Run
public import Idealize.ShloMosaic.Lib.Pipeline.ValueKit.Point

@[expose] public section
noncomputable section
open Idealize.ShloMosaic Idealize.ShloMosaic.TcCoe Idealize.SL.Sem Cert.Kernel8Ideal Cert.Kernel8Ideal.Gen
open Cert.Proof.Dense
namespace Cert.Proof.Proj8

variable (m : (ℓ : Loc nD τ sig) → Buf (Elt Ideal) ℓ) (c : Dev nD)

/-- The blocks' places: rows by the inner coordinate, columns by the outer. -/
theorem places : ∀ t : Fin grid0.N, win0_0.index t = ![win0_2.index t (0 : Fin 2), 0] ∧
    win0_1.index t = ![0, 0, 9 + win0_2.index t (1 : Fin 2)] := by decide +kernel

/-- The kernel's product of two blocks. -/
theorem pay_at (x : Vec Ideal S1280x2048 .bf16) (w : Vec Ideal S1x2048x1792 .bf16) (i : Fin 1280) (j : Fin 1792) :
    k0_pay1 (F := Ideal) x w (ix2 i j) = dot (D := 0) x w i j := by
  pointwise [k0_pay1, dot]

/-- What the kernel leaves: the array times the columns. -/
theorem final : (dats m 0 c).arrAt 2 cfg0.N =
    (proj 3584 19712 16128 (by omega) (D := 3) (m ((c.tc : Thread nD τ).loc main_arg0)) (m ((c.tc : Thread nD τ).loc main_arg1)) : Vec Ideal S33280x3584 .f32) := by
  refine (dats m 0 c).arrAt_eq_of_covers 2 _ (by decide +kernel) fun t hf y => ?_
  obtain ⟨h0, h1⟩ := places t
  blk_simp
  rw [after0_2]
  frame_out
  obtain ⟨i, j, rfl⟩ : ∃ (i : Fin 1280) (j : Fin 1792), y = ix2 i j := ⟨y 0, y 1, (ix2_eta y).symm⟩
  refine (pay_at _ _ i j).trans ?_
  unfold proj dot shift
  blk_point [iblk, V, h0, h1]

/-- The reference runs, leaves its arguments, and every counter is at zero. -/
theorem quiescent_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

/-- From equal arguments both programs run and leave equal results. -/
theorem algebraic : Cert.algebraic_Kernel8Ideal_Reference8Ideal := by
  intro m g m' g' _ hagree
  refine ⟨fun c => (dats m 0 c).arrAt 2 cfg0.N, Cert.Kernel8Ideal.Value.run_blocks (F := Ideal) m g, ?_⟩
  refine (θ_run Cert.Reference8Ideal.defs _ _).mono (fun r h c => ⟨(h c).1.trans ?_, (h c).2⟩) (Cert.Reference8Ideal.Value.run (F := Ideal) m' g')
  rw [(hagree c).1, (hagree c).2]
  refine Eq.trans ?_ (final m c).symm
  funext y
  obtain ⟨i, j, rfl⟩ : ∃ (i : Fin 33280) (j : Fin 3584), y = ix2 i j := ⟨y 0, y 1, (ix2_eta y).symm⟩
  pointwise [proj, dot, shift]

end Cert.Proof.Proj8
end
-- ==== Proof.Regroup.lean ====
module

public import proofs.«01_k».proof.Proof.Dense
public import proofs.«01_k».proof.Proof.Gen.Kernel9Ideal.Value
public import proofs.«01_k».proof.Proof.Gen.Reference9Ideal.Run
public import Idealize.ShloMosaic.Lib.Pipeline.ValueKit.Point

/-! The regrouping of the columns of `w_in`, `regroup_w_in`: the kernel turns blocks of 128 columns of the transposed array
    and stores them side by side in its own order. -/

@[expose] public section
noncomputable section
open Idealize.ShloMosaic Idealize.ShloMosaic.TcCoe Idealize.SL.Sem Cert.Kernel9Ideal Cert.Kernel9Ideal.Gen
open Cert.Proof.Dense
namespace Cert.Proof.Regroup

/-- The column of `w_in` that column `j` of the result is, outside the gap. -/
def source (j : ℕ) : ℕ :=
  if j < 4096 then j else if j < 9216 then j + 3360 else if j < 15360 then j + 3392 else if j < 19584 then j - 12032 else j - 7008

/-- It is a column of `w_in`. -/
theorem source_lt (j : Fin 19712) (h : ¬(15360 ≤ j.val ∧ j.val < 16128)) : source j.val < 18752 := by
  unfold source
  split_ifs <;> omega

/-- Row `i` and column `j` of layer `l` of the result: a column of `w_in`, and zero in the gap. -/
def moved {A B : ℕ} (w : Arr ⟨3, ![A, B, 18752]⟩) (l : Fin A) (i : Fin B) (j : Fin 19712) : EReal :=
  if h : 15360 ≤ j.val ∧ j.val < 16128 then 0 else w (ix3 l i ⟨source j.val, source_lt j h⟩)

/-- A column `k` that is the source of `j`. -/
theorem moved_of {A B : ℕ} (w : Arr ⟨3, ![A, B, 18752]⟩) (l : Fin A) (i : Fin B) (j : Fin 19712) (h : ¬(15360 ≤ j.val ∧ j.val < 16128))
    (k : Fin 18752) (hk : k.val = source j.val) : w (ix3 l i k) = moved w l i j := by
  obtain rfl : k = ⟨source j.val, source_lt j h⟩ := Fin.ext hk
  unfold moved
  rw [dif_neg h]

/-- A column in the gap. -/
theorem moved_gap {A B : ℕ} (w : Arr ⟨3, ![A, B, 18752]⟩) (l : Fin A) (i : Fin B) (j : Fin 19712) (h : 15360 ≤ j.val ∧ j.val < 16128) :
    0 = moved w l i j := by
  unfold moved
  rw [dif_pos h]

/-- The same columns moved from two arrays whose rows agree. -/
theorem moved_congr {A B A' B' : ℕ} (w : Arr ⟨3, ![A, B, 18752]⟩) (w' : Arr ⟨3, ![A', B', 18752]⟩) {l : Fin A} {i : Fin B} {l' : Fin A'} {i' : Fin B'}
    (h : ∀ k, w (ix3 l i k) = w' (ix3 l' i' k)) {j j' : Fin 19712} (hj : j = j') : moved w l i j = moved w' l' i' j' := by
  subst hj
  unfold moved
  simp only [h]

/-- A block of the transposed array, turned back. -/
def turned (X : Arr S1x18752x128) : Arr ⟨3, ![1, 128, 18752]⟩ := fun y => X (ix3 0 (y 2) (y 1))

/-! Each value that the kernel stores is the piece that it reads, turned; one is zero. -/

theorem pay2_at (X : Vec Ideal S1x128x128 .f32) (i : Fin 128) (j : Fin 128) : k0_pay2 (F := Ideal) X (ix3 0 i j) = X (ix3 0 j i) := by
  pointwise [k0_pay2]

theorem pay7_at (X : Vec Ideal S1x3456x128 .f32) (i : Fin 128) (j : Fin 3456) : k0_pay1 (F := Ideal) (k0_pay7 X) (ix3 0 i j) = X (ix3 0 j i) := by
  pointwise [k0_pay1, k0_pay7]

theorem pay6_at (i : Fin 128) (j : Fin 768) : k0_pay6 (F := Ideal) (ix3 0 i j) = 0 := by
  pointwise [k0_pay6]

theorem pay5_at (X : Vec Ideal S1x6144x128 .f32) (i : Fin 128) (j : Fin 6144) : k0_pay5 (F := Ideal) X (ix3 0 i j) = X (ix3 0 j i) := by
  pointwise [k0_pay5]

theorem pay4_at (X : Vec Ideal S1x5120x128 .f32) (i : Fin 128) (j : Fin 5120) : k0_pay4 (F := Ideal) X (ix3 0 i j) = X (ix3 0 j i) := by
  pointwise [k0_pay4]

theorem pay3_at (X : Vec Ideal S1x4096x128 .f32) (i : Fin 128) (j : Fin 4096) : k0_pay3 (F := Ideal) X (ix3 0 i j) = X (ix3 0 j i) := by
  pointwise [k0_pay3]

/-- Reading `n` rows of the transposed block from row `a` on. -/
theorem ld_at {n : ℕ} (a : ℕ) (X : S1x18752x128.Idx → Elt Ideal .f32) (inb) (i : Fin 128) (j : Fin n) (J : Fin 18752) (hJ : J.val = a + j.val) :
    View.ld (Val := Elt Ideal) X (Rect.unit (s := S1x18752x128) ![0, a, 0] ![1, n, 128] inb) (ix3 0 j i) = turned X (ix3 0 i J) := by
  refine View.ld_unit_apply_of X _ _ _ _ _ fun a => ?_
  fin_cases a
  · rfl
  · exact hJ
  · exact (Nat.zero_add _).symm

/-- A piece of the result's block that starts at column `a`, from its entries. -/
theorem piece_of {n : ℕ} (a : ℕ) (G : S1x128x19712.Idx → Elt Ideal .bf16) (f : (⟨3, ![1, 128, n]⟩ : Shape).Idx → Elt Ideal .bf16) (inb)
    (h : ∀ (i : Fin 128) (j : Fin n) (J : Fin 19712), J.val = a + j.val → f (ix3 0 i j) = G (ix3 0 i J))
    (z : (Rect.unit (s := S1x128x19712) ![0, 0, a] ![1, 128, n] inb).shape.Idx) :
    f z = G ((Rect.unit (s := S1x128x19712) ![0, 0, a] ![1, 128, n] inb).emb z) := by
  obtain ⟨l, i, j, rfl⟩ : ∃ (l : Fin 1) (i : Fin 128) (j : Fin n), z = ix3 l i j := ⟨z 0, z 1, z 2, (ix3_eta z).symm⟩
  obtain rfl := Subsingleton.elim l 0
  have hj : a + j.val < 19712 := lt_of_lt_of_le (Nat.add_lt_add_left j.isLt a) (inb 2)
  refine (h i j ⟨a + j.val, hj⟩ rfl).trans (Eq.symm ?_)
  refine View.ld_unit_apply_of (Val := Elt Ideal) G _ _ _ _ _ fun b => ?_
  fin_cases b
  · rfl
  · exact (Nat.zero_add _).symm
  · rfl

/-- A piece of the result's block that starts at column `a` and copies the columns of the block `X` from `b` on. -/
theorem copied {n : ℕ} (a b : ℕ) (X : S1x18752x128.Idx → Elt Ideal .f32) (f : (⟨3, ![1, 128, n]⟩ : Shape).Idx → Elt Ideal .bf16) (inb) (inb')
    (hf : ∀ i j, f (ix3 0 i j) = View.ld (Val := Elt Ideal) X (Rect.unit (s := S1x18752x128) ![0, b, 0] ![1, n, 128] inb') (ix3 0 j i))
    (h : ∀ j, j < n → ¬(15360 ≤ a + j ∧ a + j < 16128) ∧ b + j = source (a + j))
    (z : (Rect.unit (s := S1x128x19712) ![0, 0, a] ![1, 128, n] inb).shape.Idx) :
    f z = (fun y : S1x128x19712.Idx => moved (turned X) (0 : Fin 1) (y 1) (y 2)) ((Rect.unit (s := S1x128x19712) ![0, 0, a] ![1, 128, n] inb).emb z) := by
  refine piece_of a (fun y : S1x128x19712.Idx => moved (turned X) (0 : Fin 1) (y 1) (y 2)) f inb (fun i j J hJ => ?_) z
  obtain ⟨hg, hs⟩ := h j.val j.isLt
  rw [← hJ] at hg hs
  have hb : b + j.val < 18752 := lt_of_lt_of_le (Nat.add_lt_add_left j.isLt b) (inb' 1)
  exact (hf i j).trans ((ld_at b X inb' i j ⟨b + j.val, hb⟩ rfl).trans (moved_of (turned X) 0 i J hg ⟨b + j.val, hb⟩ hs))

variable (m : (ℓ : Loc nD τ sig) → Buf (Elt Ideal) ℓ) (c : Dev nD)

/-- What one point leaves in its block. -/
theorem block (t : Fin cfg0.N) (y : S1x128x19712.Idx) : outsAt0 m c t y = moved (turned (iblk m c 0 t)) (0 : Fin 1) (y 1) (y 2) := by
  unfold outsAt0
  frame_out
  refine View.canon_apply_of_pieces (Val := Elt Ideal) (e := .bf16) (fun y : S1x128x19712.Idx => moved (turned (iblk m c 0 t)) (0 : Fin 1) (y 1) (y 2)) _ ?_ y
    (View.cover_of_tiledBy (Val := Elt Ideal) (e := .bf16) _ ![1, 128, 128] (by sl_kernel_rfl) y)
  intro p hp z
  simp only [List.mem_cons, List.not_mem_nil, or_false] at hp
  rcases hp with rfl | rfl | rfl | rfl | rfl | rfl
  · exact copied 19584 12576 (iblk m c 0 t) _ inb_S1x128x19712_S1x128x128_0_0_19584 inb_S1x18752x128_S1x128x128_0_12576_0 (pay2_at _) (fun j hj => by unfold source; split_ifs <;> omega) z
  · exact copied 16128 4096 (iblk m c 0 t) _ inb_S1x128x19712_S1x128x3456_0_0_16128 inb_S1x18752x128_S1x3456x128_0_4096_0 (pay7_at _) (fun j hj => by unfold source; split_ifs <;> omega) z
  · exact piece_of 15360 (fun y : S1x128x19712.Idx => moved (turned (iblk m c 0 t)) (0 : Fin 1) (y 1) (y 2)) _ inb_S1x128x19712_S1x128x768_0_0_15360
      (fun i j J hJ => (pay6_at i j).trans (moved_gap (turned (iblk m c 0 t)) 0 i J (by omega))) z
  · exact copied 9216 12608 (iblk m c 0 t) _ inb_S1x128x19712_S1x128x6144_0_0_9216 inb_S1x18752x128_S1x6144x128_0_12608_0 (pay5_at _) (fun j hj => by unfold source; split_ifs <;> omega) z
  · exact copied 4096 7456 (iblk m c 0 t) _ inb_S1x128x19712_S1x128x5120_0_0_4096 inb_S1x18752x128_S1x5120x128_0_7456_0 (pay4_at _) (fun j hj => by unfold source; split_ifs <;> omega) z
  · exact copied 0 0 (iblk m c 0 t) _ inb_S1x128x19712_S1x128x4096_0_0_0 inb_S1x18752x128_S1x4096x128_0_0_0 (pay3_at _) (fun j hj => by unfold source; split_ifs <;> omega) z

/-- The blocks' places. -/
theorem places : ∀ t : Fin grid0.N, win0_0.index t = ![win0_1.index t (0 : Fin 3), 0, win0_1.index t (1 : Fin 3)] ∧ win0_1.index t (2 : Fin 3) = 0 := by decide +kernel

/-- What the kernel leaves, over the array. -/
def whole (w : Arr S4x2048x18752) : Arr S4x2048x19712 := fun y => moved w (y 0) (y 1) (y 2)

/-- The array the kernel leaves. -/
theorem final : (dats m 0 c).arrAt 1 cfg0.N = (whole (m ((c.tc : Thread nD τ).loc main_arg0)) : Vec Ideal S4x2048x19712 .bf16) := by
  refine (dats m 0 c).arrAt_eq_of_covers 1 _ (by decide +kernel) fun t hf y => ?_
  obtain ⟨h0, h1⟩ := places t
  blk_simp
  rw [after0_1, block]
  obtain ⟨l, i, j, rfl⟩ : ∃ (l : Fin 1) (i : Fin 128) (j : Fin 19712), y = ix3 l i j := ⟨y 0, y 1, y 2, (ix3_eta y).symm⟩
  obtain rfl := Subsingleton.elim l 0
  refine moved_congr _ _ (fun k => ?_) (Fin.ext ?_)
  · unfold turned
    blk_ext! [iblk, V, h0]
  · blk_simp [h1]

/-- The reference runs and leaves its arguments. -/
theorem quiescent_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

/-- From equal arguments both programs run and leave equal results. -/
theorem algebraic : Cert.algebraic_Kernel9Ideal_Reference9Ideal := by
  intro m g m' g' _ hagree
  refine ⟨fun c => (dats m 0 c).arrAt 1 cfg0.N, Cert.Kernel9Ideal.Value.run_blocks (F := Ideal) m g, ?_⟩
  refine (θ_run Cert.Reference9Ideal.defs _ _).mono (fun r h c => ⟨(h c).1.trans ?_, (h c).2⟩) (Cert.Reference9Ideal.Value.run (F := Ideal) m' g')
  have e0 := hagree c
  rw [e0]
  refine Eq.trans ?_ (final m c).symm
  funext y
  obtain ⟨l, i, j, rfl⟩ : ∃ (l : Fin 4) (i : Fin 2048) (j : Fin 19712), y = ix3 l i j := ⟨y 0, y 1, y 2, (ix3_eta y).symm⟩
  pointwise
  show _ = moved (m ((c.tc : Thread nD τ).loc main_arg0)) l i j
  split_ifs <;> first
    | exact moved_of _ _ _ _ (by omega) _ (by unfold source; dsimp only; split_ifs <;> omega)
    | exact moved_gap _ _ _ _ (by omega)

end Cert.Proof.Regroup
end
-- ==== Proof.Norm.lean ====
module

public import proofs.«01_k».proof.Proof.Dense
public import proofs.«01_k».proof.Proof.Gen.Kernel10Ideal.Value
public import proofs.«01_k».proof.Proof.Gen.Reference10Ideal.Run
public import Idealize.ShloMosaic.Lib.Pipeline.ValueKit.Point

/-! The first norm, `rms_norm`, of the rows that the host lays out: for every sequence 112 rows of zeros, the 16 meta rows and
    the rows of `x`. -/

@[expose] public section
noncomputable section
open Idealize.ShloMosaic Idealize.ShloMosaic.TcCoe Idealize.SL.Sem Cert.Kernel10Ideal Cert.Kernel10Ideal.Gen
open Cert.Proof.Dense
namespace Cert.Proof.Norm

/-- One entry of a normed block. -/
theorem pay_at (x : Vec Ideal S1664x2048 .f32) (w : Vec Ideal S1x2048 .f32) (i : Fin 1664) (j : Fin 2048) :
    k0_pay1 (F := Ideal) x w (ix2 i j) = normed (row x i) (row (R := 1) w 0) j := by
  pointwise [k0_pay1, normed, rms, row]

/-- The rows that are normed: of every 8320 the first 112 are zero, then come the 16 meta rows and the rows of `x`. -/
def laid (x : Arr S4x8192x2048) (first : Arr S16x2048) (r : Fin 33280) (j : Fin 2048) : EReal :=
  if h : r.val % 8320 < 112 then 0
  else if h' : r.val % 8320 - 112 < 16 then first (ix2 ⟨r.val % 8320 - 112, h'⟩ j)
  else x (ix3 ⟨r.val / 8320, by omega⟩ ⟨r.val % 8320 - 112 - 16, by omega⟩ j)

/-- What the kernel leaves, over the arrays. -/
def whole (x : Arr S4x8192x2048) (first : Arr S16x2048) (w : Arr S4x2048) : Arr S33280x2048 :=
  fun y => normed (laid x first (y 0)) (row (R := 4) w 0) (y 1)

variable (m : (ℓ : Loc nD τ sig) → Buf (Elt Ideal) ℓ) (c : Dev nD)

/-- The blocks' places. -/
theorem places : ∀ t : Fin grid0.N, win0_0.index t = ![win0_2.index t (0 : Fin 2), 0] ∧ win0_1.index t = ![0, 0] ∧ win0_2.index t (1 : Fin 2) = 0 := by decide +kernel

/-- The rows as the host lays them out: three arrays one behind the other. -/
theorem rows_eq : V m c main_v4 = shapeCast S33280x2048 (concatenate S4x8320x2048 1
    [⟨S4x112x2048, broadcastInDim S4x112x2048 ![] bcast_S_S4x112x2048 (constant (F := Ideal) S_ .f32 0#32)⟩,
      ⟨S4x16x2048, broadcastInDim S4x16x2048 ![0, 1, 2] bcast_S1x16x2048_S4x16x2048_0_1_2
        (broadcastInDim S1x16x2048 ![1, 2] bcast_S16x2048_S1x16x2048_1_2 (m ((c.tc : Thread nD τ).loc main_arg1)))⟩,
      ⟨S4x8192x2048, m ((c.tc : Thread nD τ).loc main_arg0)⟩]
    concatenates_S4x112x2048_S4x16x2048_S4x8192x2048_S4x8320x2048_d1) shapeCasts_S4x8320x2048_S33280x2048 := by
  unfold V
  after_results <;> rfl

/-- The same, entry by entry. -/
theorem rows_at (r : Fin 33280) (j : Fin 2048) : (V m c main_v4 : Vec Ideal S33280x2048 .f32) (ix2 r j) =
    laid (m ((c.tc : Thread nD τ).loc main_arg0)) (m ((c.tc : Thread nD τ).loc main_arg1)) r j := by
  rw [rows_eq]
  pointwise [laid]

/-- The array the kernel leaves. -/
theorem final : (dats m 0 c).arrAt 2 cfg0.N =
    (whole (m ((c.tc : Thread nD τ).loc main_arg0)) (m ((c.tc : Thread nD τ).loc main_arg1)) (m ((c.tc : Thread nD τ).loc main_arg2)) : Vec Ideal S33280x2048 .bf16) := by
  refine (dats m 0 c).arrAt_eq_of_covers 2 _ (by decide +kernel) fun t hf y => ?_
  obtain ⟨h0, h1, h2⟩ := places t
  blk_simp
  rw [after0_2]
  frame_out
  obtain ⟨i, j, rfl⟩ : ∃ (i : Fin 1664) (j : Fin 2048), y = ix2 i j := ⟨y 0, y 1, (ix2_eta y).symm⟩
  refine (pay_at _ _ i j).trans (normed_congr (fun k => ?_) (fun k => ?_) ?_)
  · refine Eq.trans ?_ (rows_at m c _ k)
    unfold row
    blk_ext [iblk, h0]
  · unfold row
    blk_ext! [iblk, V, h1]
  · refine Fin.ext ?_
    blk_simp [h2]

/-- The reference runs and leaves its arguments. -/
theorem quiescent_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

/-- From equal arguments both programs run and leave equal results. -/
theorem algebraic : Cert.algebraic_Kernel10Ideal_Reference10Ideal := by
  intro m g m' g' _ hagree
  refine ⟨fun c => (dats m 0 c).arrAt 2 cfg0.N, Cert.Kernel10Ideal.Value.run_blocks (F := Ideal) m g, ?_⟩
  refine (θ_run Cert.Reference10Ideal.defs _ _).mono (fun r h c => ⟨(h c).1.trans ?_, (h c).2⟩) (Cert.Reference10Ideal.Value.run (F := Ideal) m' g')
  obtain ⟨e0, e1, e2⟩ := hagree c
  rw [e0, e1, e2]
  refine Eq.trans ?_ (final m c).symm
  funext y
  obtain ⟨i, j, rfl⟩ : ∃ (i : Fin 33280) (j : Fin 2048), y = ix2 i j := ⟨y 0, y 1, (ix2_eta y).symm⟩
  pointwise [whole, normed, rms, laid, row]
  by_cases h : i.val % 8320 < 112
  · rw [dif_neg (by omega)]
    simp only [dif_pos h, zero_mul]
    simp [FloatOps.sitofp]
  · rw [dif_pos (by omega)]
    simp only [dif_neg h]

end Cert.Proof.Norm
end
-- ==== Proof.lean ====
/- The proof of the claims, for each program: its kernel, its idealization and its reference run and leave their arguments,
   the idealization keeps the kernel's scalars, and idealization and reference leave equal arrays. -/
module

public import proofs.«01_k».proof.Defs

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Retention
public import proofs.«01_k».proof.Proof.Up
public import proofs.«01_k».proof.Proof.Merge
public import proofs.«01_k».proof.Proof.Down
public import proofs.«01_k».proof.Proof.Out
public import proofs.«01_k».proof.Proof.Proj6
public import proofs.«01_k».proof.Proof.Proj7
public import proofs.«01_k».proof.Proof.Proj8
public import proofs.«01_k».proof.Proof.Regroup
public import proofs.«01_k».proof.Proof.Norm
public import Idealize.ShloMosaic.Adequacy
public import Idealize.ShloMosaic.Init
public import proofs.«01_k».proof.Proof.Gen.KernelIdeal.Value
public import proofs.«01_k».proof.Proof.Gen.ReferenceIdeal.Run

@[expose] public section

noncomputable section

namespace Cert.Proof

open Idealize.ShloMosaic Idealize.SL.Sem Cert.Kernel

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts,
  fun m ρ _ => Cert.Kernel.Gen.frame m ρ, fun m ρ _ => Cert.KernelIdeal.Gen.frame m ρ, Retention.quiescent_reference,
  fun m ρ _ => Cert.Kernel2.Gen.frame m ρ, fun m ρ _ => Cert.Kernel2Ideal.Gen.frame m ρ, Up.quiescent_reference,
  fun m ρ _ => Cert.Kernel3.Gen.frame m ρ, fun m ρ _ => Cert.Kernel3Ideal.Gen.frame m ρ, Merge.quiescent_reference,
  fun m ρ _ => Cert.Kernel4.Gen.frame m ρ, fun m ρ _ => Cert.Kernel4Ideal.Gen.frame m ρ, Down.quiescent_reference,
  fun m ρ _ => Cert.Kernel5.Gen.frame m ρ, fun m ρ _ => Cert.Kernel5Ideal.Gen.frame m ρ, Out.quiescent_reference,
  fun m ρ _ => Cert.Kernel6.Gen.frame m ρ, fun m ρ _ => Cert.Kernel6Ideal.Gen.frame m ρ, Proj6.quiescent_reference,
  fun m ρ _ => Cert.Kernel7.Gen.frame m ρ, fun m ρ _ => Cert.Kernel7Ideal.Gen.frame m ρ, Proj7.quiescent_reference,
  fun m ρ _ => Cert.Kernel8.Gen.frame m ρ, fun m ρ _ => Cert.Kernel8Ideal.Gen.frame m ρ, Proj8.quiescent_reference,
  fun m ρ _ => Cert.Kernel9.Gen.frame m ρ, fun m ρ _ => Cert.Kernel9Ideal.Gen.frame m ρ, Regroup.quiescent_reference,
  fun m ρ _ => Cert.Kernel10.Gen.frame m ρ, fun m ρ _ => Cert.Kernel10Ideal.Gen.frame m ρ, Norm.quiescent_reference,
  fun m ρ _ => Cert.Kernel11.Gen.frame m ρ, fun m ρ _ => Cert.Kernel11Ideal.Gen.frame m ρ,
  Retention.preserves, Retention.algebraic,
  trivial, Up.algebraic,
  trivial, Merge.algebraic,
  trivial, Down.algebraic,
  trivial, Out.algebraic,
  trivial, Proj6.algebraic,
  trivial, Proj7.algebraic,
  trivial, Proj8.algebraic,
  trivial, Regroup.algebraic,
  trivial, Norm.algebraic,
  trivial⟩

end Cert.Proof

end
